-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v44_0)) (v1 : (c : Dev Cert.Kernel3Ideal.nD) → Buf (Elt Ideal) ((c.tc : Thread Cert.Kernel3Ideal.nD Cert.Kernel3Ideal.τ).loc Cert.Kernel3Ideal.main_v44_1)) (v2 : (c : Dev Cert.Kernel3Ideal.nD) → Buf (Elt Ideal) ((c.tc : Thread Cert.Kernel3Ideal.nD Cert.Kernel3Ideal.τ).loc Cert.Kernel3Ideal.main_v44_2)) (v3 : (c : Dev Cert.Kernel3Ideal.nD) → Buf (Elt Ideal) ((c.tc : Thread Cert.Kernel3Ideal.nD Cert.Kernel3Ideal.τ).loc Cert.Kernel3Ideal.main_v44_3)) (v4 : (c : Dev Cert.Kernel3Ideal.nD) → Buf (Elt Ideal) ((c.tc : Thread Cert.Kernel3Ideal.nD Cert.Kernel3Ideal.τ).loc Cert.Kernel3Ideal.main_v44_4)) (v5 : (c : Dev Cert.Kernel3Ideal.nD) → Buf (Elt Ideal) ((c.tc : Thread Cert.Kernel3Ideal.nD Cert.Kernel3Ideal.τ).loc Cert.Kernel3Ideal.main_v44_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v44_0) = v0 c
          ∧ r.2.mem ((c.tc : Thread Cert.Kernel3Ideal.nD Cert.Kernel3Ideal.τ).loc Cert.Kernel3Ideal.main_v44_1) = v1 c
          ∧ r.2.mem ((c.tc : Thread Cert.Kernel3Ideal.nD Cert.Kernel3Ideal.τ).loc Cert.Kernel3Ideal.main_v44_2) = v2 c
          ∧ r.2.mem ((c.tc : Thread Cert.Kernel3Ideal.nD Cert.Kernel3Ideal.τ).loc Cert.Kernel3Ideal.main_v44_3) = v3 c
          ∧ r.2.mem ((c.tc : Thread Cert.Kernel3Ideal.nD Cert.Kernel3Ideal.τ).loc Cert.Kernel3Ideal.main_v44_4) = v4 c
          ∧ r.2.mem ((c.tc : Thread Cert.Kernel3Ideal.nD Cert.Kernel3Ideal.τ).loc Cert.Kernel3Ideal.main_v44_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_v93) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_v97) = v4 c
          ∧ r.2.mem ((c.tc : Thread Cert.Reference3Ideal.nD Cert.Reference3Ideal.τ).loc Cert.Reference3Ideal.main_v99) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4x4096x8x64 : Shape := ⟨4, ![4, 4096, 8, 64]⟩
abbrev S8x15x31 : Shape := ⟨3, ![8, 15, 31]⟩
abbrev S_ : Shape := ⟨0, ![]⟩

class Facts : Prop where
  bcast_S_S4x4096x8x64 : S_.BroadcastsInDim S4x4096x8x64 (![] : Fin 0 → Fin S4x4096x8x64.rank)
  bcast_S_S8x15x31 : S_.BroadcastsInDim S8x15x31 (![] : Fin 0 → Fin S8x15x31.rank)

variable [Facts]

def fn {F : FTy → Type} [FloatOps F] (main_arg0 : FVec F S4x4096x8x64 .f32) (main_arg1 : FVec F S4x4096x8x64 .f32) (main_arg2 : FVec F S4x4096x8x64 .f32) (main_arg3 : FVec F S8x15x31 .f32) : IVec S4x4096x8x64 1 × IVec S4x4096x8x64 1 × IVec S8x15x31 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : FVec F S8x15x31 .f32 := Host.absf main_arg3
  let main_cst_1 : FVec F S_ .f32 := constant S_ .f32 0x7F800000#32
  let main_v7 : FVec F S8x15x31 .f32 := broadcastInDim S8x15x31 ![] bcast_S_S8x15x31 main_cst_1
  let main_v8 : IVec S8x15x31 1 := cmpf .olt main_v6 main_v7
  (main_v2, main_v5, main_v8)
-- ==== Pre_finite3.lean ====
abbrev S4x4096x1024 : Shape := ⟨3, ![4, 4096, 1024]⟩
abbrev S1024 : Shape := ⟨1, ![1024]⟩
abbrev S1024x5632 : Shape := ⟨2, ![1024, 5632]⟩
abbrev S3072 : Shape := ⟨1, ![3072]⟩
abbrev S64 : Shape := ⟨1, ![64]⟩
abbrev S128 : Shape := ⟨1, ![128]⟩
abbrev S4x256x4x128 : Shape := ⟨4, ![4, 256, 4, 128]⟩
abbrev S_ : Shape := ⟨0, ![]⟩

class Facts : Prop where
  bcast_S_S128 : S_.BroadcastsInDim S128 (![] : Fin 0 → Fin S128.rank)
  bcast_S_S4x256x4x128 : S_.BroadcastsInDim S4x256x4x128 (![] : Fin 0 → Fin S4x256x4x128.rank)

variable [Facts]

def fn {F : FTy → Type} [FloatOps F] (main_arg0 : FVec F S4x4096x1024 .f32) (main_arg1 : FVec F S1024 .f32) (main_arg2 : FVec F S1024x5632 .f32) (main_arg3 : FVec F S3072 .f32) (main_arg4 : FVec F S64 .f32) (main_arg5 : FVec F S64 .f32) (main_arg6 : FVec F S128 .f32) (main_arg7 : FVec F S4x256x4x128 .f32) (main_arg8 : FVec F S4x256x4x128 .f32) : IVec S128 1 × IVec S4x256x4x128 1 :=
  let main_v0 : FVec F S128 .f32 := Host.absf main_arg6
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S4x256x4x128 .f32 := Host.absf main_arg7
  let main_cst_0 : FVec F S_ .f32 := constant S_ .f32 0x7F800000#32
  let main_v4 : FVec F S4x256x4x128 .f32 := broadcastInDim S4x256x4x128 ![] bcast_S_S4x256x4x128 main_cst_0
  let main_v5 : IVec S4x256x4x128 1 := cmpf .olt main_v3 main_v4
  (main_v2, main_v5)
-- ==== Kernel.lean ====
abbrev S4x4096x8x64 : Shape := ⟨4, ![4, 4096, 8, 64]⟩
abbrev S8x15x31 : Shape := ⟨3, ![8, 15, 31]⟩
abbrev S_ : Shape := ⟨0, ![]⟩
abbrev S4x4096x512 : Shape := ⟨3, ![4, 4096, 512]⟩
abbrev S4x32x128x512 : Shape := ⟨4, ![4, 32, 128, 512]⟩
abbrev S4x32x512x128 : Shape := ⟨4, ![4, 32, 512, 128]⟩
abbrev S4x4096x4x2x64 : Shape := ⟨5, ![4, 4096, 4, 2, 64]⟩
abbrev S4x4096x4x64 : Shape := ⟨4, ![4, 4096, 4, 64]⟩
abbrev S4x4096x4x1x64 : Shape := ⟨5, ![4, 4096, 4, 1, 64]⟩
abbrev S4x4096x4x256 : Shape := ⟨4, ![4, 4096, 4, 256]⟩
abbrev S4x4096x1024 : Shape := ⟨3, ![4, 4096, 1024]⟩
abbrev S5x2x10 : Shape := ⟨3, ![5, 2, 10]⟩
abbrev S64x64 : Shape := ⟨2, ![64, 64]⟩
abbrev S5x2x1x10x1 : Shape := ⟨5, ![5, 2, 1, 10, 1]⟩
abbrev S1x1x64x1x64 : Shape := ⟨5, ![1, 1, 64, 1, 64]⟩
abbrev S5x2x64x10x64 : Shape := ⟨5, ![5, 2, 64, 10, 64]⟩
abbrev S5x2x64x10x64x1 : Shape := ⟨6, ![5, 2, 64, 10, 64, 1]⟩
abbrev S5x2x64x10x64x2 : Shape := ⟨6, ![5, 2, 64, 10, 64, 2]⟩
abbrev S8x5x2x64x10x64 : Shape := ⟨6, ![8, 5, 2, 64, 10, 64]⟩
abbrev S1x5x2x64x10x64 : Shape := ⟨6, ![1, 5, 2, 64, 10, 64]⟩
abbrev S5x8x2x64x10x64 : Shape := ⟨6, ![5, 8, 2, 64, 10, 64]⟩
abbrev S5x8x128x640 : Shape := ⟨4, ![5, 8, 128, 640]⟩
abbrev S1x2048x512 : Shape := ⟨3, ![1, 2048, 512]⟩
abbrev S1x32x512x128 : Shape := ⟨4, ![1, 32, 512, 128]⟩
abbrev S1x4096x1024 : Shape := ⟨3, ![1, 4096, 1024]⟩
abbrev S128x128 : Shape := ⟨2, ![128, 128]⟩
abbrev S64x640 : Shape := ⟨2, ![64, 640]⟩
abbrev S640x128 : Shape := ⟨2, ![640, 128]⟩
abbrev S1x128x128 : Shape := ⟨3, ![1, 128, 128]⟩
abbrev S1x5x128x128 : Shape := ⟨4, ![1, 5, 128, 128]⟩
abbrev S5x128x128 : Shape := ⟨3, ![5, 128, 128]⟩
abbrev S128x640 : Shape := ⟨2, ![128, 640]⟩
abbrev S64x1280 : Shape := ⟨2, ![64, 1280]⟩
abbrev S128x1280 : Shape := ⟨2, ![128, 1280]⟩
abbrev S1x1x128x640 : Shape := ⟨4, ![1, 1, 128, 640]⟩
abbrev S128 : Shape := ⟨1, ![128]⟩
abbrev S128x1 : Shape := ⟨2, ![128, 1]⟩
abbrev S1x640x128 : Shape := ⟨3, ![1, 640, 128]⟩
abbrev S640x256 : Shape := ⟨2, ![640, 256]⟩
abbrev S1280x256 : Shape := ⟨2, ![1280, 256]⟩
abbrev S128x256 : Shape := ⟨2, ![128, 256]⟩
abbrev S128x512 : Shape := ⟨2, ![128, 512]⟩
abbrev S1x128x512 : Shape := ⟨3, ![1, 128, 512]⟩

abbrev nBuf : Space → Nat
  | .hbm => 147
  | .vmem => 9
  | .smem => 0
  | _ => 0

abbrev hbmTy0_0 (i : Nat) : BufTy := match i % 128 with
  | 0 => ⟨S4x4096x8x64, .f32⟩
  | 1 => ⟨S4x4096x8x64, .f32⟩
  | 2 => ⟨S4x4096x8x64, .f32⟩
  | 3 => ⟨S8x15x31, .f32⟩
  | 4 => ⟨S_, .f32⟩
  | 5 => ⟨S4x4096x8x64, .f32⟩
  | 6 => ⟨S4x4096x8x64, .f32⟩
  | 7 => ⟨S4x4096x512, .f32⟩
  | 8 => ⟨S4x4096x512, .bf16⟩
  | 9 => ⟨S4x32x128x512, .f32⟩
  | 10 => ⟨S4x32x512x128, .f32⟩
  | 11 => ⟨S4x32x512x128, .bf16⟩
  | 12 => ⟨S4x4096x4x2x64, .f32⟩
  | 13 => ⟨S_, .f32⟩
  | 14 => ⟨S4x4096x4x64, .f32⟩
  | 15 => ⟨S4x4096x4x1x64, .f32⟩
  | 16 => ⟨S4x4096x4x64, .f32⟩
  | 17 => ⟨S4x4096x4x1x64, .f32⟩
  | 18 => ⟨S4x4096x4x64, .f32⟩
  | 19 => ⟨S4x4096x4x256, .f32⟩
  | 20 => ⟨S4x4096x1024, .f32⟩
  | 21 => ⟨S4x4096x1024, .bf16⟩
  | 22 => ⟨S5x2x10, .i32⟩
  | 23 => ⟨S5x2x10, .i32⟩
  | 24 => ⟨S5x2x10, .i32⟩
  | 25 => ⟨S_, .i32⟩
  | 26 => ⟨S5x2x10, .i32⟩
  | 27 => ⟨S5x2x10, .i1⟩
  | 28 => ⟨S_, .i32⟩
  | 29 => ⟨S5x2x10, .i32⟩
  | 30 => ⟨S5x2x10, .i32⟩
  | 31 => ⟨S5x2x10, .i32⟩
  | 32 => ⟨S_, .i32⟩
  | 33 => ⟨S5x2x10, .i32⟩
  | 34 => ⟨S5x2x10, .i32⟩
  | 35 => ⟨S_, .i32⟩
  | 36 => ⟨S_, .i32⟩
  | 37 => ⟨S_, .i32⟩
  | 38 => ⟨S5x2x10, .i32⟩
  | 39 => ⟨S5x2x10, .i32⟩
  | 40 => ⟨S_, .i32⟩
  | 41 => ⟨S5x2x10, .i32⟩
  | 42 => ⟨S5x2x10, .i32⟩
  | 43 => ⟨S_, .i32⟩
  | 44 => ⟨S5x2x10, .i32⟩
  | 45 => ⟨S5x2x10, .i32⟩
  | 46 => ⟨S5x2x10, .i32⟩
  | 47 => ⟨S_, .i32⟩
  | 48 => ⟨S5x2x10, .i32⟩
  | 49 => ⟨S5x2x10, .i32⟩
  | 50 => ⟨S5x2x10, .i32⟩
  | 51 => ⟨S_, .i32⟩
  | 52 => ⟨S5x2x10, .i32⟩
  | 53 => ⟨S5x2x10, .i32⟩
  | 54 => ⟨S_, .i32⟩
  | 55 => ⟨S_, .i32⟩
  | 56 => ⟨S_, .i32⟩
  | 57 => ⟨S5x2x10, .i32⟩
  | 58 => ⟨S5x2x10, .i32⟩
  | 59 => ⟨S_, .i32⟩
  | 60 => ⟨S5x2x10, .i32⟩
  | 61 => ⟨S5x2x10, .i32⟩
  | 62 => ⟨S5x2x10, .i1⟩
  | 63 => ⟨S_, .i32⟩
  | 64 => ⟨S5x2x10, .i32⟩
  | 65 => ⟨S5x2x10, .i32⟩
  | 66 => ⟨S5x2x10, .i1⟩
  | 67 => ⟨S5x2x10, .i1⟩
  | 68 => ⟨S5x2x10, .i32⟩
  | 69 => ⟨S_, .i32⟩
  | 70 => ⟨S5x2x10, .i32⟩
  | 71 => ⟨S5x2x10, .i32⟩
  | 72 => ⟨S_, .i32⟩
  | 73 => ⟨S_, .i32⟩
  | 74 => ⟨S_, .i32⟩
  | 75 => ⟨S5x2x10, .i32⟩
  | 76 => ⟨S5x2x10, .i32⟩
  | 77 => ⟨S_, .i32⟩
  | 78 => ⟨S5x2x10, .i32⟩
  | 79 => ⟨S5x2x10, .i32⟩
  | 80 => ⟨S64x64, .i32⟩
  | 81 => ⟨S64x64, .i32⟩
  | 82 => ⟨S_, .i32⟩
  | 83 => ⟨S64x64, .i32⟩
  | 84 => ⟨S64x64, .i32⟩
  | 85 => ⟨S_, .i32⟩
  | 86 => ⟨S_, .i32⟩
  | 87 => ⟨S_, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S64x64, .i1⟩
  | 94 => ⟨S_, .i32⟩
  | 95 => ⟨S64x64, .i32⟩
  | 96 => ⟨S64x64, .i32⟩
  | 97 => ⟨S64x64, .i1⟩
  | 98 => ⟨S64x64, .i1⟩
  | 99 => ⟨S64x64, .i32⟩
  | 100 => ⟨S_, .i32⟩
  | 101 => ⟨S_, .i32⟩
  | 102 => ⟨S_, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S_, .i32⟩
  | 109 => ⟨S64x64, .i32⟩
  | 110 => ⟨S64x64, .i32⟩
  | 111 => ⟨S5x2x1x10x1, .i32⟩
  | 112 => ⟨S1x1x64x1x64, .i32⟩
  | 113 => ⟨S_, .i32⟩
  | 114 => ⟨S5x2x1x10x1, .i32⟩
  | 115 => ⟨S5x2x1x10x1, .i1⟩
  | 116 => ⟨S_, .i32⟩
  | 117 => ⟨S5x2x1x10x1, .i32⟩
  | 118 => ⟨S5x2x1x10x1, .i32⟩
  | 119 => ⟨S5x2x1x10x1, .i32⟩
  | 120 => ⟨S_, .i32⟩
  | 121 => ⟨S1x1x64x1x64, .i32⟩
  | 122 => ⟨S1x1x64x1x64, .i1⟩
  | 123 => ⟨S_, .i32⟩
  | 124 => ⟨S1x1x64x1x64, .i32⟩
  | 125 => ⟨S1x1x64x1x64, .i32⟩
  | 126 => ⟨S1x1x64x1x64, .i32⟩
  | 127 => ⟨S5x2x64x10x64, .i32⟩
  | _ => ⟨S4x4096x8x64, .f32⟩

abbrev hbmTy0_1 (i : Nat) : BufTy := match i % 128 with
  | 0 => ⟨S5x2x64x10x64, .i32⟩
  | 1 => ⟨S5x2x64x10x64x1, .i32⟩
  | 2 => ⟨S5x2x64x10x64x1, .i32⟩
  | 3 => ⟨S5x2x64x10x64x2, .i32⟩
  | 4 => ⟨S8x5x2x64x10x64, .f32⟩
  | 5 => ⟨S5x2x1x10x1, .i1⟩
  | 6 => ⟨S1x1x64x1x64, .i1⟩
  | 7 => ⟨S5x2x64x10x64, .i1⟩
  | 8 => ⟨S5x2x64x10x64, .i1⟩
  | 9 => ⟨S5x2x64x10x64, .i1⟩
  | 10 => ⟨S1x5x2x64x10x64, .i1⟩
  | 11 => ⟨S_, .f32⟩
  | 12 => ⟨S_, .f32⟩
  | 13 => ⟨S8x5x2x64x10x64, .i1⟩
  | 14 => ⟨S8x5x2x64x10x64, .f32⟩
  | 15 => ⟨S8x5x2x64x10x64, .f32⟩
  | 16 => ⟨S5x8x2x64x10x64, .f32⟩
  | 17 => ⟨S5x8x128x640, .f32⟩
  | 18 => ⟨S4x4096x512, .bf16⟩
  | _ => ⟨S4x4096x8x64, .f32⟩

abbrev hbmTy (i : Nat) : BufTy := match i / 128 with
  | 0 => hbmTy0_0 i
  | 1 => hbmTy0_1 i
  | _ => ⟨S4x4096x8x64, .f32⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x32x512x128, .bf16⟩
  | .local _ .vmem, ⟨3, _⟩ => ⟨S1x32x512x128, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S5x8x128x640, .f32⟩
  | .local _ .vmem, ⟨7, _⟩ => ⟨S1x2048x512, .bf16⟩
  | .local _ .vmem, ⟨8, _⟩ => ⟨S1x2048x512, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_c_9 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_c_12 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_14 : Ref sig .tc := ⟨.hbm, 82, rfl⟩
abbrev main_v47 : Ref sig .tc := ⟨.hbm, 83, rfl⟩
abbrev main_v48 : Ref sig .tc := ⟨.hbm, 84, rfl⟩
abbrev main_c_15 : Ref sig .tc := ⟨.hbm, 85, rfl⟩
abbrev main_c_16 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v49 : Ref sig .tc := ⟨.hbm, 92, rfl⟩
abbrev main_v50 : Ref sig .tc := ⟨.hbm, 93, rfl⟩
abbrev main_c_17 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_18 : Ref sig .tc := ⟨.hbm, 100, rfl⟩
abbrev main_c_19 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v56 : Ref sig .tc := ⟨.hbm, 107, rfl⟩
abbrev main_c_20 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_c_21 : Ref sig .tc := ⟨.hbm, 113, rfl⟩
abbrev main_v61 : Ref sig .tc := ⟨.hbm, 114, rfl⟩
abbrev main_v62 : Ref sig .tc := ⟨.hbm, 115, rfl⟩
abbrev main_c_22 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_23 : Ref sig .tc := ⟨.hbm, 120, rfl⟩
abbrev main_v66 : Ref sig .tc := ⟨.hbm, 121, rfl⟩
abbrev main_v67 : Ref sig .tc := ⟨.hbm, 122, rfl⟩
abbrev main_c_24 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_25 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  let c16_i32 : BitVec 32 := 16#32
  let v5 : BitVec 32 := Scalar.muli c0_i32 c16_i32
  let c0_i32_1 : BitVec 32 := 0#32
  let v6 : BitVec 32 := Scalar.addi v5 c0_i32_1
  let c128_i32 : BitVec 32 := 128#32
  let v17 : BitVec 32 := Scalar.muli v6 c128_i32
  v17
def k0_mult2 (i : grid0.Coords) : BitVec 32 :=
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let c0_i32_1 : BitVec 32 := 0#32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  v19
def k0_mult3 : BitVec 32 :=
  let c0_i32 : BitVec 32 := 0#32
  let c16_i32_8 : BitVec 32 := 16#32
  let v21 : BitVec 32 := Scalar.muli c0_i32 c16_i32_8
  let c1_i32 : BitVec 32 := 1#32
  let v22 : BitVec 32 := Scalar.addi v21 c1_i32
  let c128_i32_17 : BitVec 32 := 128#32
  let v33 : BitVec 32 := Scalar.muli v22 c128_i32_17
  v33
def k0_mult4 (i : grid0.Coords) : BitVec 32 :=
  let c27_i32_12 : BitVec 32 := 27#32
  let c0_i32_11 : BitVec 32 := 0#32
  let arg1 : BitVec 32 := BitVec.ofNat 32 (i 1).val
  let c16_i32_9 : BitVec 32 := 16#32
  let v23 : BitVec 32 := Scalar.muli arg1 c16_i32_9
  let c0_i32 : BitVec 32 := 0#32
  let c16_i32_8 : BitVec 32 := 16#32
  let v21 : BitVec 32 := Scalar.muli c0_i32 c16_i32_8
  let c1_i32 : BitVec 32 := 1#32
  let v22 : BitVec 32 := Scalar.addi v21 c1_i32
  let v24 : BitVec 32 := Scalar.addi v23 v22
  let c2_i32_10 : BitVec 32 := 2#32
  let v25 : BitVec 32 := Scalar.subi v24 c2_i32_10
  let v26 : BitVec 32 := Scalar.maxsi c0_i32_11 v25
  let v27 : BitVec 32 := Scalar.minsi c27_i32_12 v26
  let c128_i32_18 : BitVec 32 := 128#32
  let v35 : BitVec 32 := Scalar.muli v27 c128_i32_18
  v35
def k0_mult5 : BitVec 32 :=
  let c0_i32 : BitVec 32 := 0#32
  let c16_i32_19 : BitVec 32 := 16#32
  let v37 : BitVec 32 := Scalar.muli c0_i32 c16_i32_19
  let c2_i32_20 : BitVec 32 := 2#32
  let v38 : BitVec 32 := Scalar.addi v37 c2_i32_20
  let c128_i32_29 : BitVec 32 := 128#32
  let v49 : BitVec 32 := Scalar.muli v38 c128_i32_29
  v49
def k0_mult6 (i : grid0.Coords) : BitVec 32 :=
  let c27_i32_24 : BitVec 32 := 27#32
  let c0_i32_23 : BitVec 32 := 0#32
  let arg1 : BitVec 32 := BitVec.ofNat 32 (i 1).val
  let c16_i32_21 : BitVec 32 := 16#32
  let v39 : BitVec 32 := Scalar.muli arg1 c16_i32_21
  let c0_i32 : BitVec 32 := 0#32
  let c16_i32_19 : BitVec 32 := 16#32
  let v37 : BitVec 32 := Scalar.muli c0_i32 c16_i32_19
  let c2_i32_20 : BitVec 32 := 2#32
  let v38 : BitVec 32 := Scalar.addi v37 c2_i32_20
  let v40 : BitVec 32 := Scalar.addi v39 v38
  let c2_i32_22 : BitVec 32 := 2#32
  let v41 : BitVec 32 := Scalar.subi v40 c2_i32_22
  let v42 : BitVec 32 := Scalar.maxsi c0_i32_23 v41
  let v43 : BitVec 32 := Scalar.minsi c27_i32_24 v42
  let c128_i32_30 : BitVec 32 := 128#32
  let v51 : BitVec 32 := Scalar.muli v43 c128_i32_30
  v51
def k0_mult7 : BitVec 32 :=
  let c0_i32 : BitVec 32 := 0#32
  let c16_i32_31 : BitVec 32 := 16#32
  let v53 : BitVec 32 := Scalar.muli c0_i32 c16_i32_31
  let c3_i32 : BitVec 32 := 3#32
  let v54 : BitVec 32 := Scalar.addi v53 c3_i32
  let c128_i32_40 : BitVec 32 := 128#32
  let v65 : BitVec 32 := Scalar.muli v54 c128_i32_40
  v65
def k0_mult8 (i : grid0.Coords) : BitVec 32 :=
  let c27_i32_35 : BitVec 32 := 27#32
  let c0_i32_34 : BitVec 32 := 0#32
  let arg1 : BitVec 32 := BitVec.ofNat 32 (i 1).val
  let c16_i32_32 : BitVec 32 := 16#32
  let v55 : BitVec 32 := Scalar.muli arg1 c16_i32_32
  let c0_i32 : BitVec 32 := 0#32
  let c16_i32_31 : BitVec 32 := 16#32
  let v53 : BitVec 32 := Scalar.muli c0_i32 c16_i32_31
  let c3_i32 : BitVec 32 := 3#32
  let v54 : BitVec 32 := Scalar.addi v53 c3_i32
  let v56 : BitVec 32 := Scalar.addi v55 v54
  let c2_i32_33 : BitVec 32 := 2#32
  let v57 : BitVec 32 := Scalar.subi v56 c2_i32_33
  let v58 : BitVec 32 := Scalar.maxsi c0_i32_34 v57
  let v59 : BitVec 32 := Scalar.minsi c27_i32_35 v58
  let c128_i32_41 : BitVec 32 := 128#32
  let v67 : BitVec 32 := Scalar.muli v59 c128_i32_41
  v67
def k0_mult9 : BitVec 32 :=
  let c0_i32 : BitVec 32 := 0#32
  let c16_i32_42 : BitVec 32 := 16#32
  let v69 : BitVec 32 := Scalar.muli c0_i32 c16_i32_42
  let c4_i32 : BitVec 32 := 4#32
  let v70 : BitVec 32 := Scalar.addi v69 c4_i32
  let c128_i32_51 : BitVec 32 := 128#32
  let v81 : BitVec 32 := Scalar.muli v70 c128_i32_51
  v81
def k0_mult10 (i : grid0.Coords) : BitVec 32 :=
  let c27_i32_46 : BitVec 32 := 27#32
  let c0_i32_45 : BitVec 32 := 0#32
  let arg1 : BitVec 32 := BitVec.ofNat 32 (i 1).val
  let c16_i32_43 : BitVec 32 := 16#32
  let v71 : BitVec 32 := Scalar.muli arg1 c16_i32_43
  let c0_i32 : BitVec 32 := 0#32
  let c16_i32_42 : BitVec 32 := 16#32
  let v69 : BitVec 32 := Scalar.muli c0_i32 c16_i32_42
  let c4_i32 : BitVec 32 := 4#32
  let v70 : BitVec 32 := Scalar.addi v69 c4_i32
  let v72 : BitVec 32 := Scalar.addi v71 v70
  let c2_i32_44 : BitVec 32 := 2#32
  let v73 : BitVec 32 := Scalar.subi v72 c2_i32_44
  let v74 : BitVec 32 := Scalar.maxsi c0_i32_45 v73
  let v75 : BitVec 32 := Scalar.minsi c27_i32_46 v74
  let c128_i32_52 : BitVec 32 := 128#32
  let v83 : BitVec 32 := Scalar.muli v75 c128_i32_52
  v83
def k0_mult11 : BitVec 32 :=
  let c0_i32 : BitVec 32 := 0#32
  let c16_i32_53 : BitVec 32 := 16#32
  let v85 : BitVec 32 := Scalar.muli c0_i32 c16_i32_53
  let c5_i32 : BitVec 32 := 5#32
  let v86 : BitVec 32 := Scalar.addi v85 c5_i32
  let c128_i32_62 : BitVec 32 := 128#32
  let v97 : BitVec 32 := Scalar.muli v86 c128_i32_62
  v97
def k0_mult12 (i : grid0.Coords) : BitVec 32 :=
  let c27_i32_57 : BitVec 32 := 27#32
  let c0_i32_56 : BitVec 32 := 0#32
  let arg1 : BitVec 32 := BitVec.ofNat 32 (i 1).val
  let c16_i32_54 : BitVec 32 := 16#32
  let v87 : BitVec 32 := Scalar.muli arg1 c16_i32_54
  let c0_i32 : BitVec 32 := 0#32
  let c16_i32_53 : BitVec 32 := 16#32
  let v85 : BitVec 32 := Scalar.muli c0_i32 c16_i32_53
  let c5_i32 : BitVec 32 := 5#32
  let v86 : BitVec 32 := Scalar.addi v85 c5_i32
  let v88 : BitVec 32 := Scalar.addi v87 v86
  let c2_i32_55 : BitVec 32 := 2#32
  let v89 : BitVec 32 := Scalar.subi v88 c2_i32_55
  let v90 : BitVec 32 := Scalar.maxsi c0_i32_56 v89
  let v91 : BitVec 32 := Scalar.minsi c27_i32_57 v90
  let c128_i32_63 : BitVec 32 := 128#32
  let v99 : BitVec 32 := Scalar.muli v91 c128_i32_63
  v99
def k0_mult13 : BitVec 32 :=
  let c0_i32 : BitVec 32 := 0#32
  let c16_i32_64 : BitVec 32 := 16#32
  let v101 : BitVec 32 := Scalar.muli c0_i32 c16_i32_64
  let c6_i32 : BitVec 32 := 6#32
  let v102 : BitVec 32 := Scalar.addi v101 c6_i32
  let c128_i32_73 : BitVec 32 := 128#32
  let v113 : BitVec 32 := Scalar.muli v102 c128_i32_73
  v113
def k0_mult14 (i : grid0.Coords) : BitVec 32 :=
  let c27_i32_68 : BitVec 32 := 27#32
  let c0_i32_67 : BitVec 32 := 0#32
  let arg1 : BitVec 32 := BitVec.ofNat 32 (i 1).val
  let c16_i32_65 : BitVec 32 := 16#32
  let v103 : BitVec 32 := Scalar.muli arg1 c16_i32_65
  let c0_i32 : BitVec 32 := 0#32
  let c16_i32_64 : BitVec 32 := 16#32
  let v101 : BitVec 32 := Scalar.muli c0_i32 c16_i32_64
  let c6_i32 : BitVec 32 := 6#32
  let v102 : BitVec 32 := Scalar.addi v101 c6_i32
  let v104 : BitVec 32 := Scalar.addi v103 v102
  let c2_i32_66 : BitVec 32 := 2#32
  let v105 : BitVec 32 := Scalar.subi v104 c2_i32_66
  let v106 : BitVec 32 := Scalar.maxsi c0_i32_67 v105
  let v107 : BitVec 32 := Scalar.minsi c27_i32_68 v106
  let c128_i32_74 : BitVec 32 := 128#32
  let v115 : BitVec 32 := Scalar.muli v107 c128_i32_74
  v115
def k0_mult15 : BitVec 32 :=
  let c0_i32 : BitVec 32 := 0#32
  let c16_i32_75 : BitVec 32 := 16#32
  let v117 : BitVec 32 := Scalar.muli c0_i32 c16_i32_75
  let c7_i32 : BitVec 32 := 7#32
  let v118 : BitVec 32 := Scalar.addi v117 c7_i32
  let c128_i32_84 : BitVec 32 := 128#32
  let v129 : BitVec 32 := Scalar.muli v118 c128_i32_84
  v129
def k0_mult16 (i : grid0.Coords) : BitVec 32 :=
  let c27_i32_79 : BitVec 32 := 27#32
  let c0_i32_78 : BitVec 32 := 0#32
  let arg1 : BitVec 32 := BitVec.ofNat 32 (i 1).val
  let c16_i32_76 : BitVec 32 := 16#32
  let v119 : BitVec 32 := Scalar.muli arg1 c16_i32_76
  let c0_i32 : BitVec 32 := 0#32
  let c16_i32_75 : BitVec 32 := 16#32
  let v117 : BitVec 32 := Scalar.muli c0_i32 c16_i32_75
  let c7_i32 : BitVec 32 := 7#32
  let v118 : BitVec 32 := Scalar.addi v117 c7_i32
  let v120 : BitVec 32 := Scalar.addi v119 v118
  let c2_i32_77 : BitVec 32 := 2#32
  let v121 : BitVec 32 := Scalar.subi v120 c2_i32_77
  let v122 : BitVec 32 := Scalar.maxsi c0_i32_78 v121
  let v123 : BitVec 32 := Scalar.minsi c27_i32_79 v122
  let c128_i32_85 : BitVec 32 := 128#32
  let v131 : BitVec 32 := Scalar.muli v123 c128_i32_85
  v131
def k0_mult17 : BitVec 32 :=
  let c0_i32 : BitVec 32 := 0#32
  let c16_i32_86 : BitVec 32 := 16#32
  let v133 : BitVec 32 := Scalar.muli c0_i32 c16_i32_86
  let c8_i32 : BitVec 32 := 8#32
  let v134 : BitVec 32 := Scalar.addi v133 c8_i32
  let c128_i32_95 : BitVec 32 := 128#32
  let v145 : BitVec 32 := Scalar.muli v134 c128_i32_95
  v145
def k0_mult18 (i : grid0.Coords) : BitVec 32 :=
  let c27_i32_90 : BitVec 32 := 27#32
  let c0_i32_89 : BitVec 32 := 0#32
  let arg1 : BitVec 32 := BitVec.ofNat 32 (i 1).val
  let c16_i32_87 : BitVec 32 := 16#32
  let v135 : BitVec 32 := Scalar.muli arg1 c16_i32_87
  let c0_i32 : BitVec 32 := 0#32
  let c16_i32_86 : BitVec 32 := 16#32
  let v133 : BitVec 32 := Scalar.muli c0_i32 c16_i32_86
  let c8_i32 : BitVec 32 := 8#32
  let v134 : BitVec 32 := Scalar.addi v133 c8_i32
  let v136 : BitVec 32 := Scalar.addi v135 v134
  let c2_i32_88 : BitVec 32 := 2#32
  let v137 : BitVec 32 := Scalar.subi v136 c2_i32_88
  let v138 : BitVec 32 := Scalar.maxsi c0_i32_89 v137
  let v139 : BitVec 32 := Scalar.minsi c27_i32_90 v138
  let c128_i32_96 : BitVec 32 := 128#32
  let v147 : BitVec 32 := Scalar.muli v139 c128_i32_96
  v147
def k0_mult19 : BitVec 32 :=
  let c0_i32 : BitVec 32 := 0#32
  let c16_i32_97 : BitVec 32 := 16#32
  let v149 : BitVec 32 := Scalar.muli c0_i32 c16_i32_97
  let c9_i32 : BitVec 32 := 9#32
  let v150 : BitVec 32 := Scalar.addi v149 c9_i32
  let c128_i32_106 : BitVec 32 := 128#32
  let v161 : BitVec 32 := Scalar.muli v150 c128_i32_106
  v161
def k0_mult20 (i : grid0.Coords) : BitVec 32 :=
  let c27_i32_101 : BitVec 32 := 27#32
  let c0_i32_100 : BitVec 32 := 0#32
  let arg1 : BitVec 32 := BitVec.ofNat 32 (i 1).val
  let c16_i32_98 : BitVec 32 := 16#32
  let v151 : BitVec 32 := Scalar.muli arg1 c16_i32_98
  let c0_i32 : BitVec 32 := 0#32
  let c16_i32_97 : BitVec 32 := 16#32
  let v149 : BitVec 32 := Scalar.muli c0_i32 c16_i32_97
  let c9_i32 : BitVec 32 := 9#32
  let v150 : BitVec 32 := Scalar.addi v149 c9_i32
  let v152 : BitVec 32 := Scalar.addi v151 v150
  let c2_i32_99 : BitVec 32 := 2#32
  let v153 : BitVec 32 := Scalar.subi v152 c2_i32_99
  let v154 : BitVec 32 := Scalar.maxsi c0_i32_100 v153
  let v155 : BitVec 32 := Scalar.minsi c27_i32_101 v154
  let c128_i32_107 : BitVec 32 := 128#32
  let v163 : BitVec 32 := Scalar.muli v155 c128_i32_107
  v163
def k0_mult21 : BitVec 32 :=
  let c0_i32 : BitVec 32 := 0#32
  let c16_i32_108 : BitVec 32 := 16#32
  let v165 : BitVec 32 := Scalar.muli c0_i32 c16_i32_108
  let c10_i32 : BitVec 32 := 10#32
  let v166 : BitVec 32 := Scalar.addi v165 c10_i32
  let c128_i32_117 : BitVec 32 := 128#32
  let v177 : BitVec 32 := Scalar.muli v166 c128_i32_117
  v177
def k0_mult22 (i : grid0.Coords) : BitVec 32 :=
  let c27_i32_112 : BitVec 32 := 27#32
  let c0_i32_111 : BitVec 32 := 0#32
  let arg1 : BitVec 32 := BitVec.ofNat 32 (i 1).val
  let c16_i32_109 : BitVec 32 := 16#32
  let v167 : BitVec 32 := Scalar.muli arg1 c16_i32_109
  let c0_i32 : BitVec 32 := 0#32
  let c16_i32_108 : BitVec 32 := 16#32
  let v165 : BitVec 32 := Scalar.muli c0_i32 c16_i32_108
  let c10_i32 : BitVec 32 := 10#32
  let v166 : BitVec 32 := Scalar.addi v165 c10_i32
  let v168 : BitVec 32 := Scalar.addi v167 v166
  let c2_i32_110 : BitVec 32 := 2#32
  let v169 : BitVec 32 := Scalar.subi v168 c2_i32_110
  let v170 : BitVec 32 := Scalar.maxsi c0_i32_111 v169
  let v171 : BitVec 32 := Scalar.minsi c27_i32_112 v170
  let c128_i32_118 : BitVec 32 := 128#32
  let v179 : BitVec 32 := Scalar.muli v171 c128_i32_118
  v179
def k0_mult23 : BitVec 32 :=
  let c0_i32 : BitVec 32 := 0#32
  let c16_i32_119 : BitVec 32 := 16#32
  let v181 : BitVec 32 := Scalar.muli c0_i32 c16_i32_119
  let c11_i32 : BitVec 32 := 11#32
  let v182 : BitVec 32 := Scalar.addi v181 c11_i32
  let c128_i32_128 : BitVec 32 := 128#32
  let v193 : BitVec 32 := Scalar.muli v182 c128_i32_128
  v193
def k0_mult24 (i : grid0.Coords) : BitVec 32 :=
  let c27_i32_123 : BitVec 32 := 27#32
  let c0_i32_122 : BitVec 32 := 0#32
  let arg1 : BitVec 32 := BitVec.ofNat 32 (i 1).val
  let c16_i32_120 : BitVec 32 := 16#32
  let v183 : BitVec 32 := Scalar.muli arg1 c16_i32_120
  let c0_i32 : BitVec 32 := 0#32
  let c16_i32_119 : BitVec 32 := 16#32
  let v181 : BitVec 32 := Scalar.muli c0_i32 c16_i32_119
  let c11_i32 : BitVec 32 := 11#32
  let v182 : BitVec 32 := Scalar.addi v181 c11_i32
  let v184 : BitVec 32 := Scalar.addi v183 v182
  let c2_i32_121 : BitVec 32 := 2#32
  let v185 : BitVec 32 := Scalar.subi v184 c2_i32_121
  let v186 : BitVec 32 := Scalar.maxsi c0_i32_122 v185
  let v187 : BitVec 32 := Scalar.minsi c27_i32_123 v186
  let c128_i32_129 : BitVec 32 := 128#32
  let v195 : BitVec 32 := Scalar.muli v187 c128_i32_129
  v195
def k0_mult25 : BitVec 32 :=
  let c0_i32 : BitVec 32 := 0#32
  let c16_i32_130 : BitVec 32 := 16#32
  let v197 : BitVec 32 := Scalar.muli c0_i32 c16_i32_130
  let c12_i32 : BitVec 32 := 12#32
  let v198 : BitVec 32 := Scalar.addi v197 c12_i32
  let c128_i32_139 : BitVec 32 := 128#32
  let v209 : BitVec 32 := Scalar.muli v198 c128_i32_139
  v209
def k0_mult26 (i : grid0.Coords) : BitVec 32 :=
  let c27_i32_134 : BitVec 32 := 27#32
  let c0_i32_133 : BitVec 32 := 0#32
  let arg1 : BitVec 32 := BitVec.ofNat 32 (i 1).val
  let c16_i32_131 : BitVec 32 := 16#32
  let v199 : BitVec 32 := Scalar.muli arg1 c16_i32_131
  let c0_i32 : BitVec 32 := 0#32
  let c16_i32_130 : BitVec 32 := 16#32
  let v197 : BitVec 32 := Scalar.muli c0_i32 c16_i32_130
  let c12_i32 : BitVec 32 := 12#32
  let v198 : BitVec 32 := Scalar.addi v197 c12_i32
  let v200 : BitVec 32 := Scalar.addi v199 v198
  let c2_i32_132 : BitVec 32 := 2#32
  let v201 : BitVec 32 := Scalar.subi v200 c2_i32_132
  let v202 : BitVec 32 := Scalar.maxsi c0_i32_133 v201
  let v203 : BitVec 32 := Scalar.minsi c27_i32_134 v202
  let c128_i32_140 : BitVec 32 := 128#32
  let v211 : BitVec 32 := Scalar.muli v203 c128_i32_140
  v211
def k0_mult27 : BitVec 32 :=
  let c0_i32 : BitVec 32 := 0#32
  let c16_i32_141 : BitVec 32 := 16#32
  let v213 : BitVec 32 := Scalar.muli c0_i32 c16_i32_141
  let c13_i32 : BitVec 32 := 13#32
  let v214 : BitVec 32 := Scalar.addi v213 c13_i32
  let c128_i32_150 : BitVec 32 := 128#32
  let v225 : BitVec 32 := Scalar.muli v214 c128_i32_150
  v225
def k0_mult28 (i : grid0.Coords) : BitVec 32 :=
  let c27_i32_145 : BitVec 32 := 27#32
  let c0_i32_144 : BitVec 32 := 0#32
  let arg1 : BitVec 32 := BitVec.ofNat 32 (i 1).val
  let c16_i32_142 : BitVec 32 := 16#32
  let v215 : BitVec 32 := Scalar.muli arg1 c16_i32_142
  let c0_i32 : BitVec 32 := 0#32
  let c16_i32_141 : BitVec 32 := 16#32
  let v213 : BitVec 32 := Scalar.muli c0_i32 c16_i32_141
  let c13_i32 : BitVec 32 := 13#32
  let v214 : BitVec 32 := Scalar.addi v213 c13_i32
  let v216 : BitVec 32 := Scalar.addi v215 v214
  let c2_i32_143 : BitVec 32 := 2#32
  let v217 : BitVec 32 := Scalar.subi v216 c2_i32_143
  let v218 : BitVec 32 := Scalar.maxsi c0_i32_144 v217
  let v219 : BitVec 32 := Scalar.minsi c27_i32_145 v218
  let c128_i32_151 : BitVec 32 := 128#32
  let v227 : BitVec 32 := Scalar.muli v219 c128_i32_151
  v227
def k0_mult29 : BitVec 32 :=
  let c0_i32 : BitVec 32 := 0#32
  let c16_i32_152 : BitVec 32 := 16#32
  let v229 : BitVec 32 := Scalar.muli c0_i32 c16_i32_152
  let c14_i32 : BitVec 32 := 14#32
  let v230 : BitVec 32 := Scalar.addi v229 c14_i32
  let c128_i32_161 : BitVec 32 := 128#32
  let v241 : BitVec 32 := Scalar.muli v230 c128_i32_161
  v241
def k0_mult30 (i : grid0.Coords) : BitVec 32 :=
  let c27_i32_156 : BitVec 32 := 27#32
  let c0_i32_155 : BitVec 32 := 0#32
  let arg1 : BitVec 32 := BitVec.ofNat 32 (i 1).val
  let c16_i32_153 : BitVec 32 := 16#32
  let v231 : BitVec 32 := Scalar.muli arg1 c16_i32_153
  let c0_i32 : BitVec 32 := 0#32
  let c16_i32_152 : BitVec 32 := 16#32
  let v229 : BitVec 32 := Scalar.muli c0_i32 c16_i32_152
  let c14_i32 : BitVec 32 := 14#32
  let v230 : BitVec 32 := Scalar.addi v229 c14_i32
  let v232 : BitVec 32 := Scalar.addi v231 v230
  let c2_i32_154 : BitVec 32 := 2#32
  let v233 : BitVec 32 := Scalar.subi v232 c2_i32_154
  let v234 : BitVec 32 := Scalar.maxsi c0_i32_155 v233
  let v235 : BitVec 32 := Scalar.minsi c27_i32_156 v234
  let c128_i32_162 : BitVec 32 := 128#32
  let v243 : BitVec 32 := Scalar.muli v235 c128_i32_162
  v243
def k0_mult31 : BitVec 32 :=
  let c0_i32 : BitVec 32 := 0#32
  let c16_i32_163 : BitVec 32 := 16#32
  let v245 : BitVec 32 := Scalar.muli c0_i32 c16_i32_163
  let c15_i32 : BitVec 32 := 15#32
  let v246 : BitVec 32 := Scalar.addi v245 c15_i32
  let c128_i32_172 : BitVec 32 := 128#32
  let v257 : BitVec 32 := Scalar.muli v246 c128_i32_172
  v257
def k0_mult32 (i : grid0.Coords) : BitVec 32 :=
  let c27_i32_167 : BitVec 32 := 27#32
  let c0_i32_166 : BitVec 32 := 0#32
  let arg1 : BitVec 32 := BitVec.ofNat 32 (i 1).val
  let c16_i32_164 : BitVec 32 := 16#32
  let v247 : BitVec 32 := Scalar.muli arg1 c16_i32_164
  let c0_i32 : BitVec 32 := 0#32
  let c16_i32_163 : BitVec 32 := 16#32
  let v245 : BitVec 32 := Scalar.muli c0_i32 c16_i32_163
  let c15_i32 : BitVec 32 := 15#32
  let v246 : BitVec 32 := Scalar.addi v245 c15_i32
  let v248 : BitVec 32 := Scalar.addi v247 v246
  let c2_i32_165 : BitVec 32 := 2#32
  let v249 : BitVec 32 := Scalar.subi v248 c2_i32_165
  let v250 : BitVec 32 := Scalar.maxsi c0_i32_166 v249
  let v251 : BitVec 32 := Scalar.minsi c27_i32_167 v250
  let c128_i32_173 : BitVec 32 := 128#32
  let v259 : BitVec 32 := Scalar.muli v251 c128_i32_173
  v259
def k0_off1 (c0_i32_1 : BitVec 32) : Fin 3 → Nat :=
  let c0 : Index := 0#32
  let c0_i32 : BitVec 32 := 0#32
  let c16_i32 : BitVec 32 := 16#32
  let v5 : BitVec 32 := Scalar.muli c0_i32 c16_i32
  let v6 : BitVec 32 := Scalar.addi v5 c0_i32_1
  let c128_i32 : BitVec 32 := 128#32
  let v17 : BitVec 32 := Scalar.muli v6 c128_i32
  let v18 : BitVec 32 := v17
  let v261 : Index := Scalar.indexCast v18
  let c0_174 : Index := 0#32
  ![0, v261.toNat, 0]
def k0_off2 (i : grid0.Coords) (c0_i32_1 : BitVec 32) : Fin 4 → Nat :=
  let c0_175 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let v264 : Index := Scalar.indexCast v11
  let c0_176 : Index := 0#32
  let c0_177 : Index := 0#32
  ![0, v264.toNat, 0, 0]
def k0_off3 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v283 : Index := Scalar.indexCast v16
  let c0_178 : Index := 0#32
  let c0_179 : Index := 0#32
  let c0_180 : Index := 0#32
  ![v283.toNat, 0, 0, 0]
def k0_off4 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v286 : Index := Scalar.indexCast v16
  let c1 : Index := 1#32
  let c0_181 : Index := 0#32
  let c0_182 : Index := 0#32
  ![v286.toNat, 1, 0, 0]
def k0_off5 (c0_i32_1 : BitVec 32) : Fin 3 → Nat :=
  let c0_184 : Index := 0#32
  let c0_i32 : BitVec 32 := 0#32
  let c16_i32 : BitVec 32 := 16#32
  let v5 : BitVec 32 := Scalar.muli c0_i32 c16_i32
  let v6 : BitVec 32 := Scalar.addi v5 c0_i32_1
  let c128_i32 : BitVec 32 := 128#32
  let v17 : BitVec 32 := Scalar.muli v6 c128_i32
  let v18 : BitVec 32 := v17
  let v292 : Index := Scalar.indexCast v18
  let c128 : Index := 128#32
  ![0, v292.toNat, 128]
def k0_off6 (i : grid0.Coords) (c0_i32_1 : BitVec 32) : Fin 4 → Nat :=
  let c0_185 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let v295 : Index := Scalar.indexCast v11
  let c128_186 : Index := 128#32
  let c0_187 : Index := 0#32
  ![0, v295.toNat, 128, 0]
def k0_off7 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v314 : Index := Scalar.indexCast v16
  let c2 : Index := 2#32
  let c0_188 : Index := 0#32
  let c0_189 : Index := 0#32
  ![v314.toNat, 2, 0, 0]
def k0_off8 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v317 : Index := Scalar.indexCast v16
  let c3 : Index := 3#32
  let c0_190 : Index := 0#32
  let c0_191 : Index := 0#32
  ![v317.toNat, 3, 0, 0]
def k0_off9 (c0_i32_1 : BitVec 32) : Fin 3 → Nat :=
  let c0_193 : Index := 0#32
  let c0_i32 : BitVec 32 := 0#32
  let c16_i32 : BitVec 32 := 16#32
  let v5 : BitVec 32 := Scalar.muli c0_i32 c16_i32
  let v6 : BitVec 32 := Scalar.addi v5 c0_i32_1
  let c128_i32 : BitVec 32 := 128#32
  let v17 : BitVec 32 := Scalar.muli v6 c128_i32
  let v18 : BitVec 32 := v17
  let v323 : Index := Scalar.indexCast v18
  let c256 : Index := 256#32
  ![0, v323.toNat, 256]
def k0_off10 (i : grid0.Coords) (c0_i32_1 : BitVec 32) : Fin 4 → Nat :=
  let c0_194 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let v326 : Index := Scalar.indexCast v11
  let c256_195 : Index := 256#32
  let c0_196 : Index := 0#32
  ![0, v326.toNat, 256, 0]
def k0_off11 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v345 : Index := Scalar.indexCast v16
  let c4 : Index := 4#32
  let c0_197 : Index := 0#32
  let c0_198 : Index := 0#32
  ![v345.toNat, 4, 0, 0]
def k0_off12 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v348 : Index := Scalar.indexCast v16
  let c5 : Index := 5#32
  let c0_199 : Index := 0#32
  let c0_200 : Index := 0#32
  ![v348.toNat, 5, 0, 0]
def k0_off13 (i : grid0.Coords) (c0_i32_1 : BitVec 32) : Fin 3 → Nat :=
  let c0_203 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v361 : Index := Scalar.indexCast v20
  let c0_204 : Index := 0#32
  ![0, v361.toNat, 0]
def k0_off14 (i : grid0.Coords) (c0_i32_1 : BitVec 32) : Fin 3 → Nat :=
  let c0_206 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v371 : Index := Scalar.indexCast v20
  let c128_207 : Index := 128#32
  ![0, v371.toNat, 128]
def k0_off15 (c0_i32_1 : BitVec 32) : Fin 3 → Nat :=
  let c0_211 : Index := 0#32
  let c0_i32 : BitVec 32 := 0#32
  let c16_i32 : BitVec 32 := 16#32
  let v5 : BitVec 32 := Scalar.muli c0_i32 c16_i32
  let v6 : BitVec 32 := Scalar.addi v5 c0_i32_1
  let c128_i32 : BitVec 32 := 128#32
  let v17 : BitVec 32 := Scalar.muli v6 c128_i32
  let v18 : BitVec 32 := v17
  let v386 : Index := Scalar.indexCast v18
  let c384 : Index := 384#32
  ![0, v386.toNat, 384]
def k0_off16 (i : grid0.Coords) (c0_i32_1 : BitVec 32) : Fin 4 → Nat :=
  let c0_212 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let v389 : Index := Scalar.indexCast v11
  let c384_213 : Index := 384#32
  let c0_214 : Index := 0#32
  ![0, v389.toNat, 384, 0]
def k0_off17 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v408 : Index := Scalar.indexCast v16
  let c6 : Index := 6#32
  let c0_215 : Index := 0#32
  let c0_216 : Index := 0#32
  ![v408.toNat, 6, 0, 0]
def k0_off18 (i : grid0.Coords) (c0_i32_1 : BitVec 32) : Fin 4 → Nat :=
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32_4 : BitVec 32 := 2#32
  let v12 : BitVec 1 := Scalar.cmpi .slt v8 c2_i32_4
  let c30_i32 : BitVec 32 := 30#32
  let v13 : BitVec 1 := Scalar.cmpi .sge v8 c30_i32
  let c27_i32_5 : BitVec 32 := 27#32
  let v14 : BitVec 32 := Scalar.subi v8 c27_i32_5
  let c2_i32_6 : BitVec 32 := 2#32
  let v15 : BitVec 32 := Scalar.select v13 v14 c2_i32_6
  let v16 : BitVec 32 := Scalar.select v12 v8 v15
  let v411 : Index := Scalar.indexCast v16
  let c7 : Index := 7#32
  let c0_217 : Index := 0#32
  let c0_218 : Index := 0#32
  ![v411.toNat, 7, 0, 0]
def k0_off19 (i : grid0.Coords) (c0_i32_1 : BitVec 32) : Fin 3 → Nat :=
  let c0_221 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v424 : Index := Scalar.indexCast v20
  let c256_222 : Index := 256#32
  ![0, v424.toNat, 256]
def k0_off20 (i : grid0.Coords) (c0_i32_1 : BitVec 32) : Fin 3 → Nat :=
  let c0_224 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v434 : Index := Scalar.indexCast v20
  let c384_225 : Index := 384#32
  ![0, v434.toNat, 384]
def k0_off21 (i : grid0.Coords) (c0_i32_1 : BitVec 32) : Fin 3 → Nat :=
  let c0_242 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v487 : Index := Scalar.indexCast v20
  let c512 : Index := 512#32
  ![0, v487.toNat, 512]
def k0_off22 (i : grid0.Coords) (c0_i32_1 : BitVec 32) : Fin 3 → Nat :=
  let c0_244 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v497 : Index := Scalar.indexCast v20
  let c640 : Index := 640#32
  ![0, v497.toNat, 640]
def k0_off23 (i : grid0.Coords) (c0_i32_1 : BitVec 32) : Fin 3 → Nat :=
  let c0_261 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v550 : Index := Scalar.indexCast v20
  let c768 : Index := 768#32
  ![0, v550.toNat, 768]
def k0_off24 (i : grid0.Coords) (c0_i32_1 : BitVec 32) : Fin 3 → Nat :=
  let c0_263 : Index := 0#32
  let c27_i32 : BitVec 32 := 27#32
  let c0_i32_3 : BitVec 32 := 0#32
  let arg1 : BitVec 32 := BitVec.ofNat 32 (i 1).val
  let c16_i32_2 : BitVec 32 := 16#32
  let v7 : BitVec 32 := Scalar.muli arg1 c16_i32_2
  let c0_i32 : BitVec 32 := 0#32
  let c16_i32 : BitVec 32 := 16#32
  let v5 : BitVec 32 := Scalar.muli c0_i32 c16_i32
  let v6 : BitVec 32 := Scalar.addi v5 c0_i32_1
  let v8 : BitVec 32 := Scalar.addi v7 v6
  let c2_i32 : BitVec 32 := 2#32
  let v9 : BitVec 32 := Scalar.subi v8 c2_i32
  let v10 : BitVec 32 := Scalar.maxsi c0_i32_3 v9
  let v11 : BitVec 32 := Scalar.minsi c27_i32 v10
  let c128_i32_7 : BitVec 32 := 128#32
  let v19 : BitVec 32 := Scalar.muli v11 c128_i32_7
  let v20 : BitVec 32 := v19
  let v560 : Index := Scalar.indexCast v20
  let c896 : Index := 896#32
  ![0, v560.toNat, 896]
def k0_off25 (c0_i32_1 : BitVec 32) : Fin 3 → Nat :=
  let c0_267 : Index := 0#32
  let c0_i32 : BitVec 32 := 0#32
  let c16_i32 : BitVec 32 := 16#32
  let v5 : BitVec 32 := Scalar.muli c0_i32 c16_i32
  let v6 : BitVec 32 := Scalar.addi v5 c0_i32_1
  let c128_i32 : BitVec 32 := 128#32
  let v17 : BitVec 32 := Scalar.muli v6 c128_i32
  let v18 : BitVec 32 := v17
  let v577 : Index := Scalar.indexCast v18
  let c0_268 : Index := 0#32
  ![0, v577.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S5x8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x8x64 : Shape := ⟨4, ![4, 4096, 8, 64]⟩
abbrev S8x15x31 : Shape := ⟨3, ![8, 15, 31]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S4x64x64x8x64 : Shape := ⟨5, ![4, 64, 64, 8, 64]⟩
abbrev S64x8x1 : Shape := ⟨3, ![64, 8, 1]⟩
abbrev S4x64x8x64x8x64 : Shape := ⟨6, ![4, 64, 8, 64, 8, 64]⟩
abbrev S4x8x64x64x8x64 : Shape := ⟨6, ![4, 8, 64, 64, 8, 64]⟩
abbrev S1x8x64x64x8x64 : Shape := ⟨6, ![1, 8, 64, 64, 8, 64]⟩
abbrev S64x1x64 : Shape := ⟨3, ![64, 1, 64]⟩
abbrev S4x8x64x64 : Shape := ⟨4, ![4, 8, 64, 64]⟩
abbrev S4x8x64x64x1x1 : Shape := ⟨6, ![4, 8, 64, 64, 1, 1]⟩
abbrev S4x64x8x64x64 : Shape := ⟨5, ![4, 64, 8, 64, 64]⟩
abbrev S4x4096x512 : Shape := ⟨3, ![4, 4096, 512]⟩

abbrev nBuf : Space → Nat
  | .hbm => 142
  | .vmem => 0
  | .smem => 0
  | _ => 0

abbrev hbmTy0_0 (i : Nat) : BufTy := match i % 128 with
  | 0 => ⟨S4x4096x8x64, .f32⟩
  | 1 => ⟨S4x4096x8x64, .f32⟩
  | 2 => ⟨S4x4096x8x64, .f32⟩
  | 3 => ⟨S8x15x31, .f32⟩
  | 4 => ⟨S64, .i32⟩
  | 5 => ⟨S_, .i32⟩
  | 6 => ⟨S64, .i32⟩
  | 7 => ⟨S64, .i32⟩
  | 8 => ⟨S_, .i32⟩
  | 9 => ⟨S_, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S64x1, .i32⟩
  | 17 => ⟨S8, .i32⟩
  | 18 => ⟨S1x8, .i32⟩
  | 19 => ⟨S64x8, .i32⟩
  | 20 => ⟨S64x8, .i32⟩
  | 21 => ⟨S64x8, .i32⟩
  | 22 => ⟨S64, .i32⟩
  | 23 => ⟨S_, .i32⟩
  | 24 => ⟨S64, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64, .i32⟩
  | 35 => ⟨S1x64, .i32⟩
  | 36 => ⟨S64x1, .i32⟩
  | 37 => ⟨S64x64, .i32⟩
  | 38 => ⟨S64x64, .i32⟩
  | 39 => ⟨S64x64, .i1⟩
  | 40 => ⟨S1x64, .i32⟩
  | 41 => ⟨S64x1, .i32⟩
  | 42 => ⟨S_, .i32⟩
  | 43 => ⟨S64x1, .i32⟩
  | 44 => ⟨S64x1, .i32⟩
  | 45 => ⟨S64x64, .i32⟩
  | 46 => ⟨S64x64, .i32⟩
  | 47 => ⟨S64x64, .i1⟩
  | 48 => ⟨S64x64, .i1⟩
  | 49 => ⟨S64x1, .i32⟩
  | 50 => ⟨S64x8, .i32⟩
  | 51 => ⟨S64x8, .i32⟩
  | 52 => ⟨S_, .i32⟩
  | 53 => ⟨S64x8, .i32⟩
  | 54 => ⟨S64x8, .i32⟩
  | 55 => ⟨S1x64, .i32⟩
  | 56 => ⟨S64x1, .i32⟩
  | 57 => ⟨S64x64, .i32⟩
  | 58 => ⟨S64x64, .i32⟩
  | 59 => ⟨S64x64, .i32⟩
  | 60 => ⟨S_, .i32⟩
  | 61 => ⟨S_, .i32⟩
  | 62 => ⟨S_, .i32⟩
  | 63 => ⟨S64x64, .i32⟩
  | 64 => ⟨S64x64, .i32⟩
  | 65 => ⟨S_, .i32⟩
  | 66 => ⟨S64x64, .i32⟩
  | 67 => ⟨S64x64, .i32⟩
  | 68 => ⟨S_, .i32⟩
  | 69 => ⟨S64x64, .i32⟩
  | 70 => ⟨S64x64, .i32⟩
  | 71 => ⟨S64x1x8x1, .i32⟩
  | 72 => ⟨S1x64x1x64, .i32⟩
  | 73 => ⟨S_, .i32⟩
  | 74 => ⟨S64x1x8x1, .i32⟩
  | 75 => ⟨S64x1x8x1, .i1⟩
  | 76 => ⟨S_, .i32⟩
  | 77 => ⟨S64x1x8x1, .i32⟩
  | 78 => ⟨S64x1x8x1, .i32⟩
  | 79 => ⟨S64x1x8x1, .i32⟩
  | 80 => ⟨S_, .i32⟩
  | 81 => ⟨S1x64x1x64, .i32⟩
  | 82 => ⟨S1x64x1x64, .i1⟩
  | 83 => ⟨S_, .i32⟩
  | 84 => ⟨S1x64x1x64, .i32⟩
  | 85 => ⟨S1x64x1x64, .i32⟩
  | 86 => ⟨S1x64x1x64, .i32⟩
  | 87 => ⟨S64x64x8x64, .i32⟩
  | 88 => ⟨S64x64x8x64, .i32⟩
  | 89 => ⟨S64x64x8x64x1, .i32⟩
  | 90 => ⟨S64x64x8x64x1, .i32⟩
  | 91 => ⟨S64x64x8x64x2, .i32⟩
  | 92 => ⟨S8x64x64x8x64, .f32⟩
  | 93 => ⟨S4x64x64x8x64, .f32⟩
  | 94 => ⟨S4x64x64x8x64, .f32⟩
  | 95 => ⟨S_, .i32⟩
  | 96 => ⟨S64x8, .i32⟩
  | 97 => ⟨S64x8, .i1⟩
  | 98 => ⟨S_, .i32⟩
  | 99 => ⟨S64x8, .i32⟩
  | 100 => ⟨S64x8, .i32⟩
  | 101 => ⟨S64x8, .i32⟩
  | 102 => ⟨S64x8x1, .i32⟩
  | 103 => ⟨S4x64x8x64x8x64, .f32⟩
  | 104 => ⟨S4x64x64x8x64, .f32⟩
  | 105 => ⟨S_, .i32⟩
  | 106 => ⟨S64x8, .i32⟩
  | 107 => ⟨S64x8, .i1⟩
  | 108 => ⟨S_, .i32⟩
  | 109 => ⟨S64x8, .i32⟩
  | 110 => ⟨S64x8, .i32⟩
  | 111 => ⟨S64x8, .i32⟩
  | 112 => ⟨S64x8x1, .i32⟩
  | 113 => ⟨S4x64x8x64x8x64, .f32⟩
  | 114 => ⟨S4x8x64x64x8x64, .f32⟩
  | 115 => ⟨S_, .f32⟩
  | 116 => ⟨S4x8x64x64x8x64, .f32⟩
  | 117 => ⟨S4x8x64x64x8x64, .f32⟩
  | 118 => ⟨S1x8x64x64x8x64, .f32⟩
  | 119 => ⟨S4x8x64x64x8x64, .f32⟩
  | 120 => ⟨S4x8x64x64x8x64, .f32⟩
  | 121 => ⟨S64x1x64, .i1⟩
  | 122 => ⟨S_, .f32⟩
  | 123 => ⟨S_, .f32⟩
  | 124 => ⟨S4x8x64x64x8x64, .i1⟩
  | 125 => ⟨S4x8x64x64x8x64, .f32⟩
  | 126 => ⟨S4x8x64x64x8x64, .f32⟩
  | 127 => ⟨S_, .f32⟩
  | _ => ⟨S4x4096x8x64, .f32⟩

abbrev hbmTy0_1 (i : Nat) : BufTy := match i % 128 with
  | 0 => ⟨S4x8x64x64, .f32⟩
  | 1 => ⟨S4x8x64x64x1x1, .f32⟩
  | 2 => ⟨S4x8x64x64x8x64, .f32⟩
  | 3 => ⟨S4x8x64x64x8x64, .f32⟩
  | 4 => ⟨S4x8x64x64x8x64, .f32⟩
  | 5 => ⟨S_, .f32⟩
  | 6 => ⟨S4x8x64x64, .f32⟩
  | 7 => ⟨S4x8x64x64x1x1, .f32⟩
  | 8 => ⟨S4x8x64x64x8x64, .f32⟩
  | 9 => ⟨S4x8x64x64x8x64, .f32⟩
  | 10 => ⟨S4x64x8x64x64, .f32⟩
  | 11 => ⟨S4x64x64x8x64, .f32⟩
  | 12 => ⟨S4x4096x512, .f32⟩
  | 13 => ⟨S4x4096x512, .bf16⟩
  | _ => ⟨S4x4096x8x64, .f32⟩

abbrev hbmTy (i : Nat) : BufTy := match i / 128 with
  | 0 => hbmTy0_0 i
  | 1 => hbmTy0_1 i
  | _ => ⟨S4x4096x8x64, .f32⟩

abbrev bufTy : (tb : Table) → Fin (tcTables nBuf tb) → BufTy
  | .hbm, ⟨i, _⟩ => hbmTy i
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_c_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_12 : Ref sig .tc := ⟨.hbm, 80, rfl⟩
abbrev main_v48 : Ref sig .tc := ⟨.hbm, 81, rfl⟩
abbrev main_v49 : Ref sig .tc := ⟨.hbm, 82, rfl⟩
abbrev main_c_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_14 : Ref sig .tc := ⟨.hbm, 95, rfl⟩
abbrev main_v61 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_c_17 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_18 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v83 : Ref sig .tc := ⟨.hbm, 126, rfl⟩
abbrev main_cst_19 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_20 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S2x4x4096x512 : Shape := ⟨4, ![2, 4, 4096, 512]⟩
abbrev S4x4096x3x1024 : Shape := ⟨4, ![4, 4096, 3, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S2x16384x512 : Shape := ⟨3, ![2, 16384, 512]⟩
abbrev S16384x3072 : Shape := ⟨2, ![16384, 3072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S256x128 : Shape := ⟨2, ![256, 128]⟩
abbrev S1x1024 : Shape := ⟨2, ![1, 1024]⟩
abbrev S512x512 : Shape := ⟨2, ![512, 512]⟩
abbrev S2x512x512 : Shape := ⟨3, ![2, 512, 512]⟩
abbrev S512x3072 : Shape := ⟨2, ![512, 3072]⟩
abbrev S1x512x512 : Shape := ⟨3, ![1, 512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x4096 : Shape := ⟨2, ![512, 4096]⟩

abbrev nBuf : Space → Nat
  | .hbm => 46
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S2x4x4096x512, .f32⟩
  | .hbm, ⟨3, _⟩ => ⟨S4x4096x512, .f32⟩
  | .hbm, ⟨4, _⟩ => ⟨S4x4096x3x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S2x16384x512, .f32⟩
  | .hbm, ⟨16, _⟩ => ⟨S2x16384x512, .bf16⟩
  | .hbm, ⟨17, _⟩ => ⟨S16384x512, .f32⟩
  | .hbm, ⟨18, _⟩ => ⟨S16384x512, .bf16⟩
  | .hbm, ⟨19, _⟩ => ⟨S16384x3072, .f32⟩
  | .hbm, ⟨20, _⟩ => ⟨S16384x3072, .bf16⟩
  | .hbm, ⟨21, _⟩ => ⟨S128, .i32⟩
  | .hbm, ⟨22, _⟩ => ⟨S128x1, .i32⟩
  | .hbm, ⟨23, _⟩ => ⟨S1x128, .i32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | .hbm, ⟨37, _⟩ => ⟨S256x128, .bf16⟩
  | .hbm, ⟨38, _⟩ => ⟨S512x1024, .bf16⟩
  | .hbm, ⟨39, _⟩ => ⟨S512x1024, .bf16⟩
  | .hbm, ⟨40, _⟩ => ⟨S512x1024, .bf16⟩
  | .hbm, ⟨41, _⟩ => ⟨S1024x1024, .bf16⟩
  | .hbm, ⟨42, _⟩ => ⟨S1024x4096, .bf16⟩
  | .hbm, ⟨43, _⟩ => ⟨S4096x1024, .bf16⟩
  | .hbm, ⟨44, _⟩ => ⟨S1x1024, .f32⟩
  | .hbm, ⟨45, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S2x512x512, .bf16⟩
  | .local _ .vmem, ⟨5, _⟩ => ⟨S2x512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S256x128, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S512x1024, .f32⟩
  | .local _ .vmem, ⟨19, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4x4096x1024 : Shape := ⟨3, ![4, 4096, 1024]⟩
abbrev S4x4096x512 : Shape := ⟨3, ![4, 4096, 512]⟩
abbrev S2x4x4096x512 : Shape := ⟨4, ![2, 4, 4096, 512]⟩
abbrev S4x4096x3x1024 : Shape := ⟨4, ![4, 4096, 3, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x4x4096x4x128 : Shape := ⟨5, ![2, 4, 4096, 4, 128]⟩
abbrev S1x4x4096x4x128 : Shape := ⟨5, ![1, 4, 4096, 4, 128]⟩
abbrev S4x4096x4x128 : Shape := ⟨4, ![4, 4096, 4, 128]⟩
abbrev S4x4096x1x1024 : Shape := ⟨4, ![4, 4096, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S2x4x4096x512, .f32⟩
  | .hbm, ⟨3, _⟩ => ⟨S4x4096x512, .f32⟩
  | .hbm, ⟨4, _⟩ => ⟨S4x4096x3x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S128, .i32⟩
  | .hbm, ⟨13, _⟩ => ⟨S128x1, .i32⟩
  | .hbm, ⟨14, _⟩ => ⟨S1x128, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S2x4x4096x4x128, .f32⟩
  | .hbm, ⟨23, _⟩ => ⟨S1x4x4096x4x128, .f32⟩
  | .hbm, ⟨24, _⟩ => ⟨S4x4096x4x128, .f32⟩
  | .hbm, ⟨25, _⟩ => ⟨S128x128, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S4x4096x4x128, .f32⟩
  | .hbm, ⟨30, _⟩ => ⟨S1x4x4096x4x128, .f32⟩
  | .hbm, ⟨31, _⟩ => ⟨S4x4096x4x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S4x4096x4x128, .f32⟩
  | .hbm, ⟨37, _⟩ => ⟨S4x4096x4x128, .f32⟩
  | .hbm, ⟨38, _⟩ => ⟨S4x4096x1024, .f32⟩
  | .hbm, ⟨39, _⟩ => ⟨S4x4096x512, .f32⟩
  | .hbm, ⟨40, _⟩ => ⟨S4x4096x1024, .f32⟩
  | .hbm, ⟨41, _⟩ => ⟨S4x4096x1024, .f32⟩
  | .hbm, ⟨42, _⟩ => ⟨S4x4096x1x1024, .f32⟩
  | .hbm, ⟨43, _⟩ => ⟨S4x4096x1024, .f32⟩
  | .hbm, ⟨44, _⟩ => ⟨S4x4096x1024, .f32⟩
  | .hbm, ⟨45, _⟩ => ⟨S4x4096x1x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | .hbm, ⟨71, _⟩ => ⟨S4x4096x4096, .f32⟩
  | .hbm, ⟨72, _⟩ => ⟨S_, .f32⟩
  | .hbm, ⟨73, _⟩ => ⟨S4x4096x4096, .f32⟩
  | .hbm, ⟨74, _⟩ => ⟨S4x4096x4096, .f32⟩
  | .hbm, ⟨75, _⟩ => ⟨S4x4096x4096, .f32⟩
  | .hbm, ⟨76, _⟩ => ⟨S4x4096x1024, .f32⟩
  | .hbm, ⟨77, _⟩ => ⟨S4x4096x1024, .f32⟩
  | .hbm, ⟨78, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x5632 : Shape := ⟨2, ![1024, 5632]⟩
abbrev S3072 : Shape := ⟨1, ![3072]⟩
abbrev S64 : Shape := ⟨1, ![64]⟩
abbrev S128 : Shape := ⟨1, ![128]⟩
abbrev S4x256x4x128 : Shape := ⟨4, ![4, 256, 4, 128]⟩
abbrev S4x256x512 : Shape := ⟨3, ![4, 256, 512]⟩
abbrev S4x512x256 : Shape := ⟨3, ![4, 512, 256]⟩
abbrev S16384x1024 : Shape := ⟨2, ![16384, 1024]⟩
abbrev S8x64x8x64 : Shape := ⟨4, ![8, 64, 8, 64]⟩
abbrev S_ : Shape := ⟨0, ![]⟩
abbrev S512x512 : Shape := ⟨2, ![512, 512]⟩
abbrev S4x128x4x128 : Shape := ⟨4, ![4, 128, 4, 128]⟩
abbrev S1024x512 : Shape := ⟨2, ![1024, 512]⟩
abbrev S512x1024 : Shape := ⟨2, ![512, 1024]⟩
abbrev S1024x3072 : Shape := ⟨2, ![1024, 3072]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S1x128 : Shape := ⟨2, ![1, 128]⟩
abbrev S4x128 : Shape := ⟨2, ![4, 128]⟩
abbrev S1x1024 : Shape := ⟨2, ![1, 1024]⟩
abbrev S1x3072 : Shape := ⟨2, ![1, 3072]⟩
abbrev S16384x512 : Shape := ⟨2, ![16384, 512]⟩
abbrev S4x32x512x128 : Shape := ⟨4, ![4, 32, 512, 128]⟩
abbrev S16384x3072 : Shape := ⟨2, ![16384, 3072]⟩
abbrev S1x512x256 : Shape := ⟨3, ![1, 512, 256]⟩
abbrev S1x256x512 : Shape := ⟨3, ![1, 256, 512]⟩
abbrev S1x4x512x128 : Shape := ⟨4, ![1, 4, 512, 128]⟩
abbrev S512x3072 : Shape := ⟨2, ![512, 3072]⟩
abbrev S512x128 : Shape := ⟨2, ![512, 128]⟩
abbrev S1x1x512x128 : Shape := ⟨4, ![1, 1, 512, 128]⟩
abbrev S1x128x256 : Shape := ⟨3, ![1, 128, 256]⟩
abbrev S128x256 : Shape := ⟨2, ![128, 256]⟩
abbrev S512x256 : Shape := ⟨2, ![512, 256]⟩
abbrev S1x256x128 : Shape := ⟨3, ![1, 256, 128]⟩
abbrev S256x128 : Shape := ⟨2, ![256, 128]⟩
abbrev S1024x1024 : Shape := ⟨2, ![1024, 1024]⟩

abbrev nBuf : Space → Nat
  | .hbm => 69
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3072, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S4x256x4x128, .f32⟩
  | .hbm, ⟨8, _⟩ => ⟨S4x256x4x128, .f32⟩
  | .hbm, ⟨9, _⟩ => ⟨S4x256x512, .f32⟩
  | .hbm, ⟨10, _⟩ => ⟨S4x512x256, .f32⟩
  | .hbm, ⟨11, _⟩ => ⟨S4x512x256, .bf16⟩
  | .hbm, ⟨12, _⟩ => ⟨S4x256x512, .f32⟩
  | .hbm, ⟨13, _⟩ => ⟨S4x256x512, .bf16⟩
  | .hbm, ⟨14, _⟩ => ⟨S16384x1024, .f32⟩
  | .hbm, ⟨15, _⟩ => ⟨S8x64x8x64, .i32⟩
  | .hbm, ⟨16, _⟩ => ⟨S8x64x8x64, .i32⟩
  | .hbm, ⟨17, _⟩ => ⟨S8x64x8x64, .i1⟩
  | .hbm, ⟨18, _⟩ => ⟨S_, .f32⟩
  | .hbm, ⟨19, _⟩ => ⟨S_, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S512x512, .bf16⟩
  | .hbm, ⟨25, _⟩ => ⟨S4x128x4x128, .i32⟩
  | .hbm, ⟨26, _⟩ => ⟨S4x128x4x128, .i32⟩
  | .hbm, ⟨27, _⟩ => ⟨S4x128x4x128, .i1⟩
  | .hbm, ⟨28, _⟩ => ⟨S_, .f32⟩
  | .hbm, ⟨29, _⟩ => ⟨S_, .f32⟩
  | .hbm, ⟨30, _⟩ => ⟨S4x128x4x128, .f32⟩
  | .hbm, ⟨31, _⟩ => ⟨S4x128x4x128, .f32⟩
  | .hbm, ⟨32, _⟩ => ⟨S4x128x4x128, .f32⟩
  | .hbm, ⟨33, _⟩ => ⟨S512x512, .f32⟩
  | .hbm, ⟨34, _⟩ => ⟨S512x512, .bf16⟩
  | .hbm, ⟨35, _⟩ => ⟨S1024x5632, .bf16⟩
  | .hbm, ⟨36, _⟩ => ⟨S1024x512, .bf16⟩
  | .hbm, ⟨37, _⟩ => ⟨S1024x512, .bf16⟩
  | .hbm, ⟨38, _⟩ => ⟨S512x1024, .bf16⟩
  | .hbm, ⟨39, _⟩ => ⟨S1024x512, .bf16⟩
  | .hbm, ⟨40, _⟩ => ⟨S1024x512, .bf16⟩
  | .hbm, ⟨41, _⟩ => ⟨S1024x512, .bf16⟩
  | .hbm, ⟨42, _⟩ => ⟨S1024x3072, .bf16⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S1x512, .f32⟩
  | .hbm, ⟨50, _⟩ => ⟨S1x64, .f32⟩
  | .hbm, ⟨51, _⟩ => ⟨S8x64, .f32⟩
  | .hbm, ⟨52, _⟩ => ⟨S512, .f32⟩
  | .hbm, ⟨53, _⟩ => ⟨S512x1, .f32⟩
  | .hbm, ⟨54, _⟩ => ⟨S1x128, .f32⟩
  | .hbm, ⟨55, _⟩ => ⟨S4x128, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S1x512, .f32⟩
  | .hbm, ⟨61, _⟩ => ⟨S1x1024, .f32⟩
  | .hbm, ⟨62, _⟩ => ⟨S1x3072, .f32⟩
  | .hbm, ⟨63, _⟩ => ⟨S16384x512, .bf16⟩
  | .hbm, ⟨64, _⟩ => ⟨S4x32x512x128, .bf16⟩
  | .hbm, ⟨65, _⟩ => ⟨S16384x512, .bf16⟩
  | .hbm, ⟨66, _⟩ => ⟨S16384x512, .bf16⟩
  | .hbm, ⟨67, _⟩ => ⟨S16384x512, .bf16⟩
  | .hbm, ⟨68, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S1x3072, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S512x1, .f32⟩
  | .local _ .vmem, ⟨14, _⟩ => ⟨S1x512, .f32⟩
  | .local _ .vmem, ⟨15, _⟩ => ⟨S1x512x256, .bf16⟩
  | .local _ .vmem, ⟨16, _⟩ => ⟨S1x512x256, .bf16⟩
  | .local _ .vmem, ⟨17, _⟩ => ⟨S1x256x512, .bf16⟩
  | .local _ .vmem, ⟨18, _⟩ => ⟨S1x256x512, .bf16⟩
  | .local _ .vmem, ⟨19, _⟩ => ⟨S512x512, .bf16⟩
  | .local _ .vmem, ⟨20, _⟩ => ⟨S512x512, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x3072, .bf16⟩
  | .local _ .vmem, ⟨30, _⟩ => ⟨S512x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev main_v44_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x3072 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S4x4096x1024 : Shape := ⟨3, ![4, 4096, 1024]⟩
abbrev S1024 : Shape := ⟨1, ![1024]⟩
abbrev S1024x5632 : Shape := ⟨2, ![1024, 5632]⟩
abbrev S3072 : Shape := ⟨1, ![3072]⟩
abbrev S64 : Shape := ⟨1, ![64]⟩
abbrev S128 : Shape := ⟨1, ![128]⟩
abbrev S4x256x4x128 : Shape := ⟨4, ![4, 256, 4, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x512 : Shape := ⟨3, ![4, 4096, 512]⟩
abbrev S4x4096x3072 : Shape := ⟨3, ![4, 4096, 3072]⟩
abbrev S1x1x3072 : Shape := ⟨3, ![1, 1, 3072]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x32x128x512 : Shape := ⟨4, ![4, 32, 128, 512]⟩
abbrev S4x32x512x128 : Shape := ⟨4, ![4, 32, 512, 128]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S16384x512 : Shape := ⟨2, ![16384, 512]⟩
abbrev S16384x3072 : Shape := ⟨2, ![16384, 3072]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3072, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S4x256x4x128, .f32⟩
  | .hbm, ⟨8, _⟩ => ⟨S4x256x4x128, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x5632, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x3072, .f32⟩
  | .hbm, ⟨32, _⟩ => ⟨S1x1x3072, .f32⟩
  | .hbm, ⟨33, _⟩ => ⟨S4x4096x3072, .f32⟩
  | .hbm, ⟨34, _⟩ => ⟨S4x4096x3072, .f32⟩
  | .hbm, ⟨35, _⟩ => ⟨S4x4096x3072, .f32⟩
  | .hbm, ⟨36, _⟩ => ⟨S4x4096x3072, .f32⟩
  | .hbm, ⟨37, _⟩ => ⟨S_, .f32⟩
  | .hbm, ⟨38, _⟩ => ⟨S4x4096x3072, .f32⟩
  | .hbm, ⟨39, _⟩ => ⟨S4x4096x3072, .f32⟩
  | .hbm, ⟨40, _⟩ => ⟨S_, .f32⟩
  | .hbm, ⟨41, _⟩ => ⟨S4x4096x3072, .f32⟩
  | .hbm, ⟨42, _⟩ => ⟨S4x4096x3072, .f32⟩
  | .hbm, ⟨43, _⟩ => ⟨S4x4096x8x64, .f32⟩
  | .hbm, ⟨44, _⟩ => ⟨S4x4096x8x64, .f32⟩
  | .hbm, ⟨45, _⟩ => ⟨S_, .f32⟩
  | .hbm, ⟨46, _⟩ => ⟨S4x4096x8, .f32⟩
  | .hbm, ⟨47, _⟩ => ⟨S4x4096x8x1, .f32⟩
  | .hbm, ⟨48, _⟩ => ⟨S_, .f32⟩
  | .hbm, ⟨49, _⟩ => ⟨S4x4096x8x1, .f32⟩
  | .hbm, ⟨50, _⟩ => ⟨S4x4096x8x1, .f32⟩
  | .hbm, ⟨51, _⟩ => ⟨S_, .f32⟩
  | .hbm, ⟨52, _⟩ => ⟨S4x4096x8x1, .f32⟩
  | .hbm, ⟨53, _⟩ => ⟨S4x4096x8x1, .f32⟩
  | .hbm, ⟨54, _⟩ => ⟨S4x4096x8x1, .f32⟩
  | .hbm, ⟨55, _⟩ => ⟨S4x4096x8x64, .f32⟩
  | .hbm, ⟨56, _⟩ => ⟨S4x4096x8x64, .f32⟩
  | .hbm, ⟨57, _⟩ => ⟨S1x1x1x64, .f32⟩
  | .hbm, ⟨58, _⟩ => ⟨S4x4096x8x64, .f32⟩
  | .hbm, ⟨59, _⟩ => ⟨S4x4096x8x64, .f32⟩
  | .hbm, ⟨60, _⟩ => ⟨S_, .f32⟩
  | .hbm, ⟨61, _⟩ => ⟨S4x4096x8x64, .f32⟩
  | .hbm, ⟨62, _⟩ => ⟨S4x4096x8x64, .f32⟩
  | .hbm, ⟨63, _⟩ => ⟨S4x4096x8x64, .f32⟩
  | .hbm, ⟨64, _⟩ => ⟨S4x4096x8x64, .f32⟩
  | .hbm, ⟨65, _⟩ => ⟨S_, .f32⟩
  | .hbm, ⟨66, _⟩ => ⟨S4x4096x8, .f32⟩
  | .hbm, ⟨67, _⟩ => ⟨S4x4096x8x1, .f32⟩
  | .hbm, ⟨68, _⟩ => ⟨S_, .f32⟩
  | .hbm, ⟨69, _⟩ => ⟨S4x4096x8x1, .f32⟩
  | .hbm, ⟨70, _⟩ => ⟨S4x4096x8x1, .f32⟩
  | .hbm, ⟨71, _⟩ => ⟨S_, .f32⟩
  | .hbm, ⟨72, _⟩ => ⟨S4x4096x8x1, .f32⟩
  | .hbm, ⟨73, _⟩ => ⟨S4x4096x8x1, .f32⟩
  | .hbm, ⟨74, _⟩ => ⟨S4x4096x8x1, .f32⟩
  | .hbm, ⟨75, _⟩ => ⟨S4x4096x8x64, .f32⟩
  | .hbm, ⟨76, _⟩ => ⟨S4x4096x8x64, .f32⟩
  | .hbm, ⟨77, _⟩ => ⟨S1x1x1x64, .f32⟩
  | .hbm, ⟨78, _⟩ => ⟨S4x4096x8x64, .f32⟩
  | .hbm, ⟨79, _⟩ => ⟨S4x4096x8x64, .f32⟩
  | .hbm, ⟨80, _⟩ => ⟨S4x32x128x512, .f32⟩
  | .hbm, ⟨81, _⟩ => ⟨S4x32x512x128, .f32⟩
  | .hbm, ⟨82, _⟩ => ⟨S4x4096x4x128, .f32⟩
  | .hbm, ⟨83, _⟩ => ⟨S4x4096x4x128, .f32⟩
  | .hbm, ⟨84, _⟩ => ⟨S_, .f32⟩
  | .hbm, ⟨85, _⟩ => ⟨S4x4096x4, .f32⟩
  | .hbm, ⟨86, _⟩ => ⟨S4x4096x4x1, .f32⟩
  | .hbm, ⟨87, _⟩ => ⟨S_, .f32⟩
  | .hbm, ⟨88, _⟩ => ⟨S4x4096x4x1, .f32⟩
  | .hbm, ⟨89, _⟩ => ⟨S4x4096x4x1, .f32⟩
  | .hbm, ⟨90, _⟩ => ⟨S_, .f32⟩
  | .hbm, ⟨91, _⟩ => ⟨S4x4096x4x1, .f32⟩
  | .hbm, ⟨92, _⟩ => ⟨S4x4096x4x1, .f32⟩
  | .hbm, ⟨93, _⟩ => ⟨S4x4096x4x1, .f32⟩
  | .hbm, ⟨94, _⟩ => ⟨S4x4096x4x128, .f32⟩
  | .hbm, ⟨95, _⟩ => ⟨S4x4096x4x128, .f32⟩
  | .hbm, ⟨96, _⟩ => ⟨S1x1x1x128, .f32⟩
  | .hbm, ⟨97, _⟩ => ⟨S4x4096x4x128, .f32⟩
  | .hbm, ⟨98, _⟩ => ⟨S4x4096x4x128, .f32⟩
  | .hbm, ⟨99, _⟩ => ⟨S4x4x4096x256, .f32⟩
  | .hbm, ⟨100, _⟩ => ⟨S_, .f32⟩
  | .hbm, ⟨101, _⟩ => ⟨S4x4x4096x256, .f32⟩
  | .hbm, ⟨102, _⟩ => ⟨S4x4x4096x256, .f32⟩
  | .hbm, ⟨103, _⟩ => ⟨S_, .f32⟩
  | .hbm, ⟨104, _⟩ => ⟨S4x4x4096, .f32⟩
  | .hbm, ⟨105, _⟩ => ⟨S4x4x4096x1, .f32⟩
  | .hbm, ⟨106, _⟩ => ⟨S4x4x4096x256, .f32⟩
  | .hbm, ⟨107, _⟩ => ⟨S4x4x4096x256, .f32⟩
  | .hbm, ⟨108, _⟩ => ⟨S4x4x4096x256, .f32⟩
  | .hbm, ⟨109, _⟩ => ⟨S_, .f32⟩
  | .hbm, ⟨110, _⟩ => ⟨S4x4x4096, .f32⟩
  | .hbm, ⟨111, _⟩ => ⟨S4x4x4096x1, .f32⟩
  | .hbm, ⟨112, _⟩ => ⟨S4x4x4096x256, .f32⟩
  | .hbm, ⟨113, _⟩ => ⟨S4x4x4096x256, .f32⟩
  | .hbm, ⟨114, _⟩ => ⟨S4x4x128x4096, .f32⟩
  | .hbm, ⟨115, _⟩ => ⟨S4x4096x4x128, .f32⟩
  | .hbm, ⟨116, _⟩ => ⟨S16384x512, .f32⟩
  | .hbm, ⟨117, _⟩ => ⟨S16384x512, .bf16⟩
  | .hbm, ⟨118, _⟩ => ⟨S4x32x512x128, .bf16⟩
  | .hbm, ⟨119, _⟩ => ⟨S16384x512, .f32⟩
  | .hbm, ⟨120, _⟩ => ⟨S16384x512, .bf16⟩
  | .hbm, ⟨121, _⟩ => ⟨S16384x512, .f32⟩
  | .hbm, ⟨122, _⟩ => ⟨S16384x512, .bf16⟩
  | .hbm, ⟨123, _⟩ => ⟨S16384x512, .f32⟩
  | .hbm, ⟨124, _⟩ => ⟨S16384x512, .bf16⟩
  | .hbm, ⟨125, _⟩ => ⟨S16384x3072, .f32⟩
  | .hbm, ⟨126, _⟩ => ⟨S16384x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]
-- ==== Proof.Softmax.lean ====
/- The mathematics of the neighbourhood attention, free of any program: a softmax over a long row of keys of which all
   but a window are masked with `⊥` (minus infinity), its division made once after the weighted sum, is the softmax
   over the window alone with every weight divided. Scores are real numbers or `⊥`; the values are any extended reals. -/
module

public import Idealize.ShloMosaic.PureOps.Ideal.Laws

@[expose] public section

noncomputable section

namespace Cert.Na

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_sum {ι : Type} (t : Finset ι) (f : ι → EReal) (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

/-- A sum of real numbers, taken in the extended reals, is their real sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A nonnegative real factor distributes over any sum of extended reals. -/
theorem sum_mul_coe {ι : Type} (t : Finset ι) (f : ι → EReal) {a : ℝ} (ha : 0 ≤ a) :
    (∑ i ∈ t, f i) * (a : EReal) = ∑ i ∈ t, f i * (a : EReal) := by
  classical
  induction t using Finset.induction_on with
  | empty => simp
  | insert b t hb ih =>
    rw [Finset.sum_insert hb, Finset.sum_insert hb, ← ih, mul_comm _ (a : EReal), mul_comm (f b), mul_comm (∑ i ∈ t, f i)]
    exact EReal.left_distrib_of_nonneg_of_ne_top (EReal.coe_nonneg.mpr ha) (EReal.coe_ne_top a) _ _

/-- A sum over the keys that vanishes off the window is the sum over the window. -/
theorem sum_window {K W : Type} [Fintype K] [Fintype W] {f : W → K} (hf : Function.Injective f) (g : K → EReal)
    (h : ∀ κ, (∀ w, f w ≠ κ) → g κ = 0) : ∑ κ, g κ = ∑ w, g (f w) :=
  (Finset.sum_of_injOn f hf.injOn (fun _ _ => Finset.mem_coe.mpr (Finset.mem_univ _))
    (fun κ _ hκ => h κ fun w hw => hκ ⟨w, Finset.mem_coe.mpr (Finset.mem_univ _), hw⟩) (fun _ _ => rfl)).symm

/-- The greatest score over the keys is the greatest over the window when every other key is at `⊥`. -/
theorem max_window {K W : Type} [Fintype K] [Fintype W] {f : W → K} (s : K → EReal)
    (h : ∀ κ, (∀ w, f w ≠ κ) → s κ = ⊥) : Finset.univ.fold max ⊥ s = Finset.univ.fold max ⊥ fun w => s (f w) := by
  apply le_antisymm
  · rw [Finset.fold_max_le]
    refine ⟨bot_le, fun κ _ => ?_⟩
    by_cases hκ : ∃ w, f w = κ
    · obtain ⟨w, rfl⟩ := hκ
      exact (Finset.le_fold_max _).mpr (.inr ⟨w, Finset.mem_univ _, le_rfl⟩)
    · rw [h κ fun w hw => hκ ⟨w, hw⟩]; exact bot_le
  · rw [Finset.fold_max_le]
    exact ⟨bot_le, fun w _ => (Finset.le_fold_max _).mpr (.inr ⟨f w, Finset.mem_univ _, le_rfl⟩)⟩

/-- The greatest of scores that are real or `⊥`, one of them real, is real. -/
theorem isReal_max {K : Type} [Fintype K] (s : K → EReal) (hs : ∀ κ, s κ = ⊥ ∨ IsReal (s κ)) (hr : ∃ κ, IsReal (s κ)) :
    IsReal (Finset.univ.fold max ⊥ s) := by
  obtain ⟨κ, r, hκ⟩ := hr
  have hbot : Finset.univ.fold max ⊥ s ≠ ⊥ := by
    intro h
    have : s κ ≤ ⊥ := h ▸ (Finset.le_fold_max _).mpr (.inr ⟨κ, Finset.mem_univ _, le_rfl⟩)
    rw [hκ] at this
    exact EReal.coe_ne_bot r (le_bot_iff.mp this)
  have htop : Finset.univ.fold max ⊥ s ≠ ⊤ := by
    intro h
    rcases (Finset.le_fold_max (⊤ : EReal)).mp h.ge with h | ⟨κ, _, h⟩
    · exact absurd (le_bot_iff.mp h) (by simp)
    · rcases hs κ with h' | ⟨r, h'⟩
      · rw [h'] at h; exact absurd (le_bot_iff.mp h) (by simp)
      · rw [h'] at h; exact EReal.coe_ne_top r (top_le_iff.mp h)
  exact ⟨_, (EReal.coe_toReal htop hbot).symm⟩

/-- Softmax over masked keys with one division at the end, and over the window with every weight divided. -/
theorem softmax_window {K W : Type} [Fintype K] [Fintype W] {f : W → K} (hf : Function.Injective f) (s v : K → EReal)
    (hout : ∀ κ, (∀ w, f w ≠ κ) → s κ = ⊥) (hs : ∀ κ, s κ = ⊥ ∨ IsReal (s κ)) (hr : ∃ κ, IsReal (s κ)) :
    Ideal.div (∑ κ, Ideal.exp (s κ - Finset.univ.fold max ⊥ s) * v κ)
        (∑ κ, Ideal.exp (s κ - Finset.univ.fold max ⊥ s))
      = ∑ w, v (f w) * Ideal.div (Ideal.exp (s (f w) - Finset.univ.fold max ⊥ fun w => s (f w)))
          (∑ w, Ideal.exp (s (f w) - Finset.univ.fold max ⊥ fun w => s (f w))) := by
  obtain ⟨M, hM⟩ := isReal_max s hs hr
  rw [← max_window s hout, hM]
  have hbot : ∀ κ, s κ = ⊥ → Ideal.exp (s κ - (M : EReal)) = 0 := fun κ h => by rw [h, EReal.bot_sub]; rfl
  have he : ∀ κ, ∃ r : ℝ, 0 ≤ r ∧ (IsReal (s κ) → 0 < r) ∧ Ideal.exp (s κ - (M : EReal)) = (r : EReal) := by
    intro κ
    rcases hs κ with h | ⟨x, h⟩
    · refine ⟨0, le_rfl, fun ⟨x, hx⟩ => absurd (h.symm.trans hx).symm (EReal.coe_ne_bot x), ?_⟩
      rw [hbot κ h]; rfl
    · refine ⟨Real.exp (x - M), (Real.exp_pos _).le, fun _ => Real.exp_pos _, ?_⟩
      rw [h, ← EReal.coe_sub]; rfl
  choose r hr0 hrp hre using he
  have hsum : ∑ w, Ideal.exp (s (f w) - (M : EReal)) = ∑ κ, Ideal.exp (s κ - (M : EReal)) :=
    (sum_window hf (fun κ => Ideal.exp (s κ - (M : EReal))) fun κ hκ => hbot κ (hout κ hκ)).symm
  have hl : ∑ κ, Ideal.exp (s κ - (M : EReal)) = ((∑ κ, r κ : ℝ) : EReal) := by
    rw [← coe_sum]; exact Finset.sum_congr rfl fun κ _ => hre κ
  have hpos : 0 < ∑ κ, r κ := by
    obtain ⟨κ, hκ⟩ := hr
    exact Finset.sum_pos' (fun κ _ => hr0 κ) ⟨κ, Finset.mem_univ _, hrp κ hκ⟩
  rw [hsum, hl, Ideal.div_coe hpos.ne', sum_mul_coe _ _ (by positivity),
    sum_window hf (fun κ => Ideal.exp (s κ - (M : EReal)) * v κ * _) fun κ hκ => by rw [hbot κ (hout κ hκ), zero_mul, zero_mul]]
  refine Finset.sum_congr rfl fun w _ => ?_
  rw [Ideal.div_coe hpos.ne', mul_comm (Ideal.exp _) (v (f w)), mul_assoc]

end Cert.Na

end
-- ==== Proof.Item.lean ====
/- One head pair's output of the kernel body, as a function of the blocks it loads: the same sixty-four times over. The
   printed operations are named here once, in stages, and each stage is read at an index over the extended reals. -/
module

public import proofs.«01_k».proof.Proof.Softmax
public import proofs.«01_k».proof.Proof.Gen.KernelIdeal
public import proofs.«01_k».proof.Proof.Gen.KernelIdeal.Skeleton
public import Idealize.ShloMosaic.Lib.Pointwise
public import Idealize.ShloMosaic.Lib.KernelVsHost

@[expose] public section

set_option maxRecDepth 16384

noncomputable section

namespace Cert.Na

open Idealize.ShloMosaic Idealize.SL.Sem Cert.KernelIdeal Cert.KernelIdeal.Gen

variable {F : FTy → Type} [FloatOps F]

/-! ## The stages -/

/-- The five key tiles of a head pair side by side: 640 keys. -/
def keysCat (k : Vec F S1x5x128x128 .bf16) : FVec F S128x640 .bf16 :=
  have v : FVec F S5x128x128 .bf16 := shapeCast S5x128x128 k shapeCasts_S1x5x128x128_S5x128x128
  concatenate S128x640 1 [⟨S128x128, shapeCast S128x128 (extractStridedSlice S1x128x128 ![0, 0, 0] v slices_S5x128x128_o0_0_0_S1x128x128) shapeCasts_S1x128x128_S128x128⟩,
    ⟨S128x128, shapeCast S128x128 (extractStridedSlice S1x128x128 ![1, 0, 0] v slices_S5x128x128_o1_0_0_S1x128x128) shapeCasts_S1x128x128_S128x128⟩,
    ⟨S128x128, shapeCast S128x128 (extractStridedSlice S1x128x128 ![2, 0, 0] v slices_S5x128x128_o2_0_0_S1x128x128) shapeCasts_S1x128x128_S128x128⟩,
    ⟨S128x128, shapeCast S128x128 (extractStridedSlice S1x128x128 ![3, 0, 0] v slices_S5x128x128_o3_0_0_S1x128x128) shapeCasts_S1x128x128_S128x128⟩,
    ⟨S128x128, shapeCast S128x128 (extractStridedSlice S1x128x128 ![4, 0, 0] v slices_S5x128x128_o4_0_0_S1x128x128) shapeCasts_S1x128x128_S128x128⟩]
    concatenates_S128x128_S128x128_S128x128_S128x128_S128x128_S128x640_d1

/-- The keys of the two heads on the diagonal of one 128 × 1280 matrix, zeros off it. -/
def keyDiag (x : FVec F S128x640 .bf16) : FVec F S128x1280 .bf16 :=
  concatenate S128x1280 0
    [⟨S64x1280, concatenate S64x1280 1 [⟨S64x640, extractStridedSlice S64x640 ![0, 0] x slices_S128x640_o0_0_S64x640⟩, ⟨S64x640, k0_pay3⟩] concatenates_S64x640_S64x640_S64x1280_d1⟩,
     ⟨S64x1280, concatenate S64x1280 1 [⟨S64x640, k0_pay3⟩, ⟨S64x640, extractStridedSlice S64x640 ![64, 0] x slices_S128x640_o64_0_S64x640⟩] concatenates_S64x640_S64x640_S64x1280_d1⟩]
    concatenates_S64x1280_S64x1280_S128x1280_d0

/-- The two heads' bias tiles side by side. -/
def biasCat (b0 b1 : Vec F S1x1x128x640 .f32) : FVec F S128x1280 .f32 :=
  concatenate S128x1280 1 [⟨S128x640, shapeCast S128x640 b0 shapeCasts_S1x1x128x640_S128x640⟩,
    ⟨S128x640, shapeCast S128x640 b1 shapeCasts_S1x1x128x640_S128x640⟩] concatenates_S128x640_S128x640_S128x1280_d1

/-- The scores of both heads. -/
def scores (q : Vec F S1x128x128 .bf16) (k : Vec F S1x5x128x128 .bf16) (b0 b1 : Vec F S1x1x128x640 .f32) : FVec F S128x1280 .f32 :=
  addf (matmul dot_S128x128_S128x1280_S128x1280_1_0_0_1_n_n none (shapeCast S128x128 q shapeCasts_S1x128x128_S128x128)
    (keyDiag (keysCat k)) (constant S128x1280 .f32 0x00000000#32)) (biasCat b0 b1)

/-- The exponentials of one head's scores less their maximum. -/
def expRow (x : FVec F S128x640 .f32) : FVec F S128x640 .bf16 :=
  exp (truncf .bf16 (subf x (broadcastTo S128x640 (shapeCast S128x1
    (multiReduction .maximumf [1] S128 x 0xFF800000#32 reduces_S128x640_S128 (.inl rfl) rfl)
    shapeCasts_S128_S128x1) broadcasts_S128x1_S128x640)) bitsLt_bf16_f32)

/-- Both heads' exponentials side by side. -/
def weights (s : FVec F S128x1280 .f32) : FVec F S128x1280 .bf16 :=
  concatenate S128x1280 1 [⟨S128x640, expRow (extractStridedSlice S128x640 ![0, 0] s slices_S128x1280_o0_0_S128x640)⟩,
    ⟨S128x640, expRow (extractStridedSlice S128x640 ![0, 640] s slices_S128x1280_o0_640_S128x640)⟩]
    concatenates_S128x640_S128x640_S128x1280_d1

/-- The values of the two heads on the diagonal of one 1280 × 256 matrix, zeros off it. -/
def valDiag (v0 v1 : Vec F S1x640x128 .bf16) : FVec F S1280x256 .bf16 :=
  concatenate S1280x256 0
    [⟨S640x256, concatenate S640x256 1 [⟨S640x128, shapeCast S640x128 v0 shapeCasts_S1x640x128_S640x128⟩, ⟨S640x128, k0_pay4⟩] concatenates_S640x128_S640x128_S640x256_d1⟩,
     ⟨S640x256, concatenate S640x256 1 [⟨S640x128, k0_pay4⟩, ⟨S640x128, shapeCast S640x128 v1 shapeCasts_S1x640x128_S640x128⟩] concatenates_S640x128_S640x128_S640x256_d1⟩]
    concatenates_S640x256_S640x256_S1280x256_d0

/-- The weighted sums of the values, and (in the columns of ones) the sums of the weights. -/
def sums (s : FVec F S128x1280 .f32) (v0 v1 : Vec F S1x640x128 .bf16) : FVec F S128x256 .f32 :=
  matmul dot_S128x1280_S1280x256_S128x256_1_0_0_1_n_n none (weights s) (valDiag v0 v1) (constant S128x256 .f32 0x00000000#32)

/-- A column divided by the column sixty-four places round. -/
def normed (x : FVec F S128x128 .f32) : FVec F S128x128 .f32 :=
  divf x (dynamicRotate 1 64#32 none x rotates_S128x128_d1)

/-- The head pair's output. -/
def itemOut (q : Vec F S1x128x128 .bf16) (k : Vec F S1x5x128x128 .bf16) (b0 b1 : Vec F S1x1x128x640 .f32)
    (v0 v1 : Vec F S1x640x128 .bf16) : FVec F S128x128 .f32 :=
  select k0_pay2 (normed (extractStridedSlice S128x128 ![0, 0] (sums (scores q k b0 b1) v0 v1) slices_S128x256_o0_0_S128x128))
    (normed (extractStridedSlice S128x128 ![0, 128] (sums (scores q k b0 b1) v0 v1) slices_S128x256_o0_128_S128x128))

/-- Four head pairs side by side: what one pair of image rows stores. -/
def pairOut (i0 i1 i2 i3 : FVec F S128x128 .f32) : FVec F S1x128x512 .bf16 :=
  shapeCast S1x128x512 (truncf .bf16 (concatenate S128x512 1 [⟨S128x128, i0⟩, ⟨S128x128, i1⟩, ⟨S128x128, i2⟩, ⟨S128x128, i3⟩]
    concatenates_S128x128_S128x128_S128x128_S128x128_S128x512_d1) bitsLt_bf16_f32) shapeCasts_S128x512_S1x128x512

/-! ## The stages at an index, over the extended reals -/

theorem keysCat_apply (k : Vec Ideal S1x5x128x128 .bf16) (d : Fin 128) (κ : Fin 640) :
    keysCat (F := Ideal) k (ix2 d κ) = k (ix4 (0 : Fin 1) (⟨κ.val / 128, by omega⟩ : Fin 5) d (⟨κ.val % 128, by omega⟩ : Fin 128)) := by
  have hκ := κ.isLt
  pointwise [keysCat]
  split_ifs <;> congr 2 <;> refine Fin.ext ?_ <;> simp <;> omega

/-- The score of query `r` of the pair against key `κ` for the pair's head `h`. -/
def score (q : Vec Ideal S1x128x128 .bf16) (k : Vec Ideal S1x5x128x128 .bf16) (b : Vec Ideal S1x1x128x640 .f32)
    (r : Fin 128) (h : Fin 2) (κ : Fin 640) : EReal :=
  (∑ d : Fin 64, q (ix3 (0 : Fin 1) r (⟨64 * h.val + d.val, by omega⟩ : Fin 128))
      * k (ix4 (0 : Fin 1) (⟨κ.val / 128, by omega⟩ : Fin 5) (⟨64 * h.val + d.val, by omega⟩ : Fin 128) (⟨κ.val % 128, by omega⟩ : Fin 128)))
    + b (ix4 (0 : Fin 1) (0 : Fin 1) r κ)

theorem scores_apply0 (q : Vec Ideal S1x128x128 .bf16) (k : Vec Ideal S1x5x128x128 .bf16) (b0 b1 : Vec Ideal S1x1x128x640 .f32)
    (r : Fin 128) (κ : Fin 640) :
    extractStridedSlice S128x640 ![0, 0] (scores (F := Ideal) q k b0 b1) slices_S128x1280_o0_0_S128x640 (ix2 r κ) = score q k b0 r 0 κ := by
  have hκ := κ.isLt
  pointwise [scores, keyDiag, k0_pay3, biasCat, score]
  simp only [keysCat_apply, mul_zero, Finset.sum_const_zero, add_zero, zero_add]

theorem scores_apply1 (q : Vec Ideal S1x128x128 .bf16) (k : Vec Ideal S1x5x128x128 .bf16) (b0 b1 : Vec Ideal S1x1x128x640 .f32)
    (r : Fin 128) (κ : Fin 640) :
    extractStridedSlice S128x640 ![0, 640] (scores (F := Ideal) q k b0 b1) slices_S128x1280_o0_640_S128x640 (ix2 r κ) = score q k b1 r 1 κ := by
  have hκ := κ.isLt
  pointwise [scores, keyDiag, k0_pay3, biasCat, score]
  simp only [keysCat_apply, mul_zero, Finset.sum_const_zero, add_zero, zero_add]

theorem expRow_apply (x : FVec Ideal S128x640 .f32) (r : Fin 128) (κ : Fin 640) :
    expRow (F := Ideal) x (ix2 r κ) = Ideal.exp (x (ix2 r κ) - Finset.univ.fold max ⊥ fun κ' : Fin 640 => x (ix2 r κ')) := by
  pointwise [expRow]
  rw [show Ideal.ofBits FTy.f32 4286578688#32 = ⊥ from by simp [Ideal.ofBits, Ideal.ieee]]

/-- The weight of key `κ` before normalisation. -/
def wt (s : Fin 640 → EReal) (κ : Fin 640) : EReal := Ideal.exp (s κ - Finset.univ.fold max ⊥ s)

theorem sums_apply0 (s : FVec Ideal S128x1280 .f32) (v0 v1 : Vec Ideal S1x640x128 .bf16) (r : Fin 128) (c : Fin 128) :
    sums (F := Ideal) s v0 v1 (ix2 r ⟨c.val, by omega⟩) = ∑ κ : Fin 640,
      expRow (F := Ideal) (extractStridedSlice S128x640 ![0, 0] s slices_S128x1280_o0_0_S128x640) (ix2 r κ) * v0 (ix3 (0 : Fin 1) κ c) := by
  pointwise [sums, weights, valDiag, k0_pay4]
  simp only [Fin.is_lt, dite_true, mul_zero, Finset.sum_const_zero, add_zero]

theorem sums_apply1 (s : FVec Ideal S128x1280 .f32) (v0 v1 : Vec Ideal S1x640x128 .bf16) (r : Fin 128) (c : Fin 128) :
    sums (F := Ideal) s v0 v1 (ix2 r ⟨128 + c.val, by omega⟩) = ∑ κ : Fin 640,
      expRow (F := Ideal) (extractStridedSlice S128x640 ![0, 640] s slices_S128x1280_o0_640_S128x640) (ix2 r κ) * v1 (ix3 (0 : Fin 1) κ c) := by
  pointwise [sums, weights, valDiag, k0_pay4]
  have h : ¬ 128 + c.val < 128 := by omega
  simp only [h, dite_false, mul_zero, Finset.sum_const_zero, zero_add, Nat.add_sub_cancel_left]

/-- The head pair's output, column `c`: head `c / 64`'s weighted sum of the values, over the weighted sum of the column of
    ones beside them. -/
theorem itemOut_apply (q : Vec Ideal S1x128x128 .bf16) (k : Vec Ideal S1x5x128x128 .bf16) (b0 b1 : Vec Ideal S1x1x128x640 .f32)
    (v0 v1 : Vec Ideal S1x640x128 .bf16) (r : Fin 128) (c : Fin 128) (h : Fin 2) (hc : c.val / 64 = h.val) :
    itemOut (F := Ideal) q k b0 b1 v0 v1 (ix2 r c) =
      Ideal.div (∑ κ : Fin 640, wt (score q k (if h = 0 then b0 else b1) r h) κ * (if h = 0 then v0 else v1) (ix3 (0 : Fin 1) κ c))
        (∑ κ : Fin 640, wt (score q k (if h = 0 then b0 else b1) r h) κ * (if h = 0 then v0 else v1) (ix3 (0 : Fin 1) κ (⟨(c.val + 64) % 128, by omega⟩ : Fin 128))) := by
  pointwise [itemOut, normed, k0_pay2]
  have e : (c.val + 128 - 64) % 128 = (c.val + 64) % 128 := by omega
  rw [sums_apply0 _ _ _ _ c, sums_apply1 _ _ _ _ c, sums_apply0 _ _ _ _ (⟨(c.val + 128 - 64) % 128, by omega⟩ : Fin 128), sums_apply1 _ _ _ _ (⟨(c.val + 128 - 64) % 128, by omega⟩ : Fin 128)]
  simp only [expRow_apply, scores_apply0, scores_apply1, e, ← wt.eq_1]
  rw [(by decide +kernel : ∀ c : Fin 128, IntOp.cmpi CmpIPredicate.slt (BitVec.ofNat 32 c.val) 64#32 = if c.val / 64 = 0 then 1#1 else 0#1) c]
  rw [hc]
  fin_cases h <;> simp [Scalar.select, wt]

theorem pairOut_apply (f : Fin 4 → FVec Ideal S128x128 .f32) (r : Fin 128) (c : Fin 512) :
    pairOut (F := Ideal) (f 0) (f 1) (f 2) (f 3) (ix3 (0 : Fin 1) r c) =
      f (⟨c.val / 128, by omega⟩ : Fin 4) (ix2 r (⟨c.val % 128, by omega⟩ : Fin 128)) := by
  have hc := c.isLt
  pointwise [pairOut]
  have e : c.val / 128 = 0 ∨ c.val / 128 = 1 ∨ c.val / 128 = 2 ∨ c.val / 128 = 3 := by omega
  have key : ∀ (a b : Fin 4) (x y : Fin 128), a = b → x = y → f a (ix2 r x) = f b (ix2 r y) := by
    rintro a _ x _ rfl rfl; rfl
  rcases e with e | e | e | e
  · rw [dif_pos (by omega)]; exact key _ _ _ _ (Fin.ext e.symm) (Fin.ext (by simp only; omega))
  · rw [dif_neg (by omega), dif_pos (by omega)]; exact key _ _ _ _ (Fin.ext e.symm) (Fin.ext (by simp only; omega))
  · rw [dif_neg (by omega), dif_neg (by omega), dif_pos (by omega)]; exact key _ _ _ _ (Fin.ext e.symm) (Fin.ext (by simp only; omega))
  · rw [dif_neg (by omega), dif_neg (by omega), dif_neg (by omega)]; exact key _ _ _ _ (Fin.ext e.symm) (Fin.ext (by simp only; omega))

end Cert.Na
-- ==== Proof.Body.lean ====
/- What the kernel body stores, piece by piece. -/
module

public import proofs.«01_k».proof.Proof.Item
public import proofs.«01_k».proof.Proof.Gen.KernelIdeal.Value
public import Idealize.ShloMosaic.Lib.Pipeline.ValueKit

@[expose] public section

set_option maxRecDepth 16384

noncomputable section

namespace Cert.Na

open Idealize.ShloMosaic Idealize.SL.Sem Cert.KernelIdeal Cert.KernelIdeal.Gen

variable {F : FTy → Type} [FloatOps F]

/-- Head pair 0 of image-row pair `j` of the block. -/
def item0 (i : grid0.Coords) (x0 : Vec F S1x2048x512 .bf16) (x1 : Vec F S1x32x512x128 .bf16) (x2 : Vec F S1x4096x1024 .bf16)
    (x3 : Vec F S5x8x128x640 .f32) (j : Fin 16) : FVec F S128x128 .f32 :=
  itemOut (View.ld x0 (Rect.unit (k0_off1 (BitVec.ofNat 32 j.val)) S1x128x128.size (k0_off1_inb j)))
    (View.ld x1 (Rect.unit (k0_off2 i (BitVec.ofNat 32 j.val)) S1x5x128x128.size (k0_off2_inb i j)))
    (View.ld x3 (Rect.unit (k0_off3 i (BitVec.ofNat 32 j.val)) S1x1x128x640.size (k0_off3_inb i j)))
    (View.ld x3 (Rect.unit (k0_off4 i (BitVec.ofNat 32 j.val)) S1x1x128x640.size (k0_off4_inb i j)))
    (View.ld x2 (Rect.unit (k0_off13 i (BitVec.ofNat 32 j.val)) S1x640x128.size (k0_off13_inb i j)))
    (View.ld x2 (Rect.unit (k0_off14 i (BitVec.ofNat 32 j.val)) S1x640x128.size (k0_off14_inb i j)))

/-- Head pair 1 of image-row pair `j` of the block. -/
def item1 (i : grid0.Coords) (x0 : Vec F S1x2048x512 .bf16) (x1 : Vec F S1x32x512x128 .bf16) (x2 : Vec F S1x4096x1024 .bf16)
    (x3 : Vec F S5x8x128x640 .f32) (j : Fin 16) : FVec F S128x128 .f32 :=
  itemOut (View.ld x0 (Rect.unit (k0_off5 (BitVec.ofNat 32 j.val)) S1x128x128.size (k0_off5_inb j)))
    (View.ld x1 (Rect.unit (k0_off6 i (BitVec.ofNat 32 j.val)) S1x5x128x128.size (k0_off6_inb i j)))
    (View.ld x3 (Rect.unit (k0_off7 i (BitVec.ofNat 32 j.val)) S1x1x128x640.size (k0_off7_inb i j)))
    (View.ld x3 (Rect.unit (k0_off8 i (BitVec.ofNat 32 j.val)) S1x1x128x640.size (k0_off8_inb i j)))
    (View.ld x2 (Rect.unit (k0_off19 i (BitVec.ofNat 32 j.val)) S1x640x128.size (k0_off19_inb i j)))
    (View.ld x2 (Rect.unit (k0_off20 i (BitVec.ofNat 32 j.val)) S1x640x128.size (k0_off20_inb i j)))

/-- Head pair 2 of image-row pair `j` of the block. -/
def item2 (i : grid0.Coords) (x0 : Vec F S1x2048x512 .bf16) (x1 : Vec F S1x32x512x128 .bf16) (x2 : Vec F S1x4096x1024 .bf16)
    (x3 : Vec F S5x8x128x640 .f32) (j : Fin 16) : FVec F S128x128 .f32 :=
  itemOut (View.ld x0 (Rect.unit (k0_off9 (BitVec.ofNat 32 j.val)) S1x128x128.size (k0_off9_inb j)))
    (View.ld x1 (Rect.unit (k0_off10 i (BitVec.ofNat 32 j.val)) S1x5x128x128.size (k0_off10_inb i j)))
    (View.ld x3 (Rect.unit (k0_off11 i (BitVec.ofNat 32 j.val)) S1x1x128x640.size (k0_off11_inb i j)))
    (View.ld x3 (Rect.unit (k0_off12 i (BitVec.ofNat 32 j.val)) S1x1x128x640.size (k0_off12_inb i j)))
    (View.ld x2 (Rect.unit (k0_off21 i (BitVec.ofNat 32 j.val)) S1x640x128.size (k0_off21_inb i j)))
    (View.ld x2 (Rect.unit (k0_off22 i (BitVec.ofNat 32 j.val)) S1x640x128.size (k0_off22_inb i j)))

/-- Head pair 3 of image-row pair `j` of the block. -/
def item3 (i : grid0.Coords) (x0 : Vec F S1x2048x512 .bf16) (x1 : Vec F S1x32x512x128 .bf16) (x2 : Vec F S1x4096x1024 .bf16)
    (x3 : Vec F S5x8x128x640 .f32) (j : Fin 16) : FVec F S128x128 .f32 :=
  itemOut (View.ld x0 (Rect.unit (k0_off15 (BitVec.ofNat 32 j.val)) S1x128x128.size (k0_off15_inb j)))
    (View.ld x1 (Rect.unit (k0_off16 i (BitVec.ofNat 32 j.val)) S1x5x128x128.size (k0_off16_inb i j)))
    (View.ld x3 (Rect.unit (k0_off17 i (BitVec.ofNat 32 j.val)) S1x1x128x640.size (k0_off17_inb i j)))
    (View.ld x3 (Rect.unit (k0_off18 i (BitVec.ofNat 32 j.val)) S1x1x128x640.size (k0_off18_inb i j)))
    (View.ld x2 (Rect.unit (k0_off23 i (BitVec.ofNat 32 j.val)) S1x640x128.size (k0_off23_inb i j)))
    (View.ld x2 (Rect.unit (k0_off24 i (BitVec.ofNat 32 j.val)) S1x640x128.size (k0_off24_inb i j)))

/-- What image-row pair `j` of the block stores. -/
def pairTerm (i : grid0.Coords) (x0 : Vec F S1x2048x512 .bf16) (x1 : Vec F S1x32x512x128 .bf16) (x2 : Vec F S1x4096x1024 .bf16)
    (x3 : Vec F S5x8x128x640 .f32) (j : Fin 16) : FVec F S1x128x512 .bf16 :=
  pairOut (item0 i x0 x1 x2 x3 j) (item1 i x0 x1 x2 x3 j) (item2 i x0 x1 x2 x3 j) (item3 i x0 x1 x2 x3 j)

/-- The block as one function of its index. -/
def blockOut (i : grid0.Coords) (x0 : Vec F S1x2048x512 .bf16) (x1 : Vec F S1x32x512x128 .bf16) (x2 : Vec F S1x4096x1024 .bf16)
    (x3 : Vec F S5x8x128x640 .f32) (y : S1x2048x512.Idx) : F .bf16 :=
  pairTerm i x0 x1 x2 x3 (⟨(y 1).val / 128, by have h : (y 1).val < 2048 := (y 1).isLt; omega⟩ : Fin 16)
    (ix3 (0 : Fin 1) (⟨(y 1).val % 128, by omega⟩ : Fin 128) (⟨(y 2).val, (y 2).isLt⟩ : Fin 512))

/-- A store of image-row pair `j`'s term is that part of the block. -/
theorem piece_ok (i : grid0.Coords) (x0 : Vec F S1x2048x512 .bf16) (x1 : Vec F S1x32x512x128 .bf16) (x2 : Vec F S1x4096x1024 .bf16)
    (x3 : Vec F S5x8x128x640 .f32) (j : Fin 16) (off : Fin 3 → ℕ) (hoff : off = ![0, 128 * j.val, 0])
    (inb : ∀ a, off a + S1x128x512.size a ≤ S1x2048x512.size a) (w : FVec F S1x128x512 .bf16) (hw : w = pairTerm i x0 x1 x2 x3 j)
    (x : S1x128x512.Idx) : w x = blockOut i x0 x1 x2 x3 ((Rect.unit (s := S1x2048x512) off S1x128x512.size inb).emb x) := by
  subst hw hoff
  have h0 : (x 0).val < 1 := (x 0).isLt
  have h1 : (x 1).val < 128 := (x 1).isLt
  have e1 : ((Rect.unit (s := S1x2048x512) ![0, 128 * j.val, 0] S1x128x512.size inb).emb x 1).val = 128 * j.val + (x 1).val := by
    blk_simp
  have e2 : ((Rect.unit (s := S1x2048x512) ![0, 128 * j.val, 0] S1x128x512.size inb).emb x 2).val = (x 2).val := by
    blk_simp
  unfold blockOut
  have ej : (⟨((Rect.unit (s := S1x2048x512) ![0, 128 * j.val, 0] S1x128x512.size inb).emb x 1).val / 128, by rw [e1]; omega⟩ : Fin 16) = j :=
    Fin.ext (by show _ / 128 = _; rw [e1]; omega)
  rw [ej]
  refine congrArg _ (funext fun a => Fin.ext ?_)
  fin_cases a
  · show (x 0).val = 0; omega
  · show (x 1).val = _ % 128; rw [e1]; omega
  · exact e2.symm

/-- One store. -/
def mkPiece (off : Fin 3 → ℕ) (inb : ∀ a, off a + S1x128x512.size a ≤ S1x2048x512.size a) (w : FVec F S1x128x512 .bf16) :
    View.Piece (Elt F) S1x2048x512 .bf16 := ⟨Rect.unit off S1x128x512.size inb, w⟩

theorem store_inb : ∀ (j : Fin 16) (a : Fin 3), (![0, 128 * j.val, 0] : Fin 3 → ℕ) a + S1x128x512.size a ≤ S1x2048x512.size a := by decide +kernel

/-- The sixteen stores, the last first. -/
def pieces (i : grid0.Coords) (x0 : Vec F S1x2048x512 .bf16) (x1 : Vec F S1x32x512x128 .bf16) (x2 : Vec F S1x4096x1024 .bf16)
    (x3 : Vec F S5x8x128x640 .f32) : List (View.Piece (Elt F) S1x2048x512 .bf16) :=
  ([15, 14, 13, 12, 11, 10, 9, 8, 7, 6, 5, 4, 3, 2, 1, 0] : List (Fin 16)).map fun j =>
    mkPiece ![0, 128 * j.val, 0] (store_inb j) (pairTerm i x0 x1 x2 x3 j)

/-- What the body leaves in its output block. -/
theorem out_eq (c : Dev nD) (i : grid0.Coords) (arg2 : Memref sig .tc .vmem S1x2048x512 .bf16) (harg2 : arg2.IsWhole) (arg3 : Memref sig .tc .vmem S1x32x512x128 .bf16) (harg3 : arg3.IsWhole) (arg4 : Memref sig .tc .vmem S1x4096x1024 .bf16) (harg4 : arg4.IsWhole) (arg5 : Memref sig .tc .vmem S5x8x128x640 .f32) (harg5 : arg5.IsWhole) (arg6 : Memref sig .tc .vmem S1x2048x512 .bf16) (harg6 : arg6.IsWhole)
    (x0 : Vec F S1x2048x512 .bf16) (x1 : Vec F S1x32x512x128 .bf16) (x2 : Vec F S1x4096x1024 .bf16) (x3 : Vec F S5x8x128x640 .f32) (y : S1x2048x512.Idx) :
    out0_A_4 (F := F) c i arg2 harg2 arg3 harg3 arg4 harg4 arg5 harg5 arg6 harg6 x0 x1 x2 x3 y = blockOut i x0 x1 x2 x3 y := by
  unfold out0_A_4
  rw [View.read_writes_apply_eq_canon]
  · refine View.canon_apply_of_pieces (blockOut i x0 x1 x2 x3) _ ?_ y (cover0_A_4 c i arg2 harg2 arg3 harg3 arg4 harg4 arg5 harg5 arg6 harg6 x0 x1 x2 x3 y)
    unfold kernelRun0_A
    dsimp only
    sl_unfold_words
    simp only [View.readAt_eq_ld, harg2.read_unread, harg3.read_unread, harg4.read_unread, harg5.read_unread]
    have key : ∀ L : List (View.Piece (Elt F) S1x2048x512 .bf16), L = pieces i x0 x1 x2 x3 →
        ∀ p ∈ L, ∀ x : p.1.shape.Idx, p.2 x = blockOut i x0 x1 x2 x3 (p.1.emb x) := by
      rintro L rfl p hp x
      obtain ⟨j, -, rfl⟩ := List.mem_map.mp hp
      exact piece_ok i x0 x1 x2 x3 j _ rfl (store_inb j) _ rfl x
    exact key _ (by sl_kernel_rfl)
  · exact cover0_A_4 c i arg2 harg2 arg3 harg3 arg4 harg4 arg5 harg5 arg6 harg6 x0 x1 x2 x3 y

end Cert.Na
-- ==== Proof.Block.lean ====
/- The output block of a grid point, entry by entry: the query row's attention over the 640 keys its bias table spans. -/
module

public import proofs.«01_k».proof.Proof.Body

@[expose] public section

set_option maxRecDepth 16384

noncomputable section

namespace Cert.Na

open Idealize.ShloMosaic Idealize.SL.Sem Cert.KernelIdeal Cert.KernelIdeal.Gen

/-- A load at an index is the block there. -/
theorem ld_at {S : Shape} {e : EltTy} {Val : EltTy → Type} (x : S.Idx → Val e) (off size : Fin S.rank → ℕ) (inb : ∀ a, off a + size a ≤ S.size a)
    (y : (Rect.unit off size inb).shape.Idx) (z : S.Idx) (h : ∀ a, off a + (y a).val = (z a).val) :
    View.ld x (Rect.unit off size inb) y = x z := by
  refine congrArg x (funext fun a => Fin.ext ?_)
  show off a + 1 * (y a).val = _
  rw [one_mul]; exact h a

variable (x0 : Vec Ideal S1x2048x512 .bf16) (x1 : Vec Ideal S1x32x512x128 .bf16) (x2 : Vec Ideal S1x4096x1024 .bf16)
    (x3 : Vec Ideal S5x8x128x640 .f32)

/-- The score of the block's query `ρ` against key `κ` of the 640 from key tile `st` on, head `hd`, bias table `cs`. -/
def rowScore (st : Fin 28) (cs : Fin 5) (ρ : Fin 2048) (hd : Fin 8) (κ : Fin 640) : EReal :=
  (∑ d : Fin 64, x0 (ix3 (0 : Fin 1) ρ (⟨64 * hd.val + d.val, by omega⟩ : Fin 512))
      * x1 (ix4 (0 : Fin 1) (⟨st.val + κ.val / 128, by omega⟩ : Fin 32) (⟨64 * hd.val + d.val, by omega⟩ : Fin 512) (⟨κ.val % 128, by omega⟩ : Fin 128)))
    + x3 (ix4 cs hd (⟨ρ.val % 128, by omega⟩ : Fin 128) κ)

/-- The block's entry at query `ρ`, channel `ch`. -/
def rowOut (st : Fin 28) (cs : Fin 5) (ρ : Fin 2048) (ch : Fin 512) : EReal :=
  Ideal.div
    (∑ κ : Fin 640, wt (rowScore x0 x1 x3 st cs ρ (⟨ch.val / 64, by omega⟩ : Fin 8)) κ
      * x2 (ix3 (0 : Fin 1) (⟨128 * st.val + κ.val, by omega⟩ : Fin 4096) (⟨128 * (ch.val / 64) + ch.val % 128, by omega⟩ : Fin 1024)))
    (∑ κ : Fin 640, wt (rowScore x0 x1 x3 st cs ρ (⟨ch.val / 64, by omega⟩ : Fin 8)) κ
      * x2 (ix3 (0 : Fin 1) (⟨128 * st.val + κ.val, by omega⟩ : Fin 4096) (⟨128 * (ch.val / 64) + (ch.val + 64) % 128, by omega⟩ : Fin 1024)))

variable {x0 x1 x2 x3} in
/-- A head pair's output, from its loads' offsets. -/
theorem item_at (j : Fin 16) (hp : Fin 4) (st : Fin 28) (cs : Fin 5) {oq : Fin 3 → ℕ} {ok ob0 ob1 : Fin 4 → ℕ} {ov0 ov1 : Fin 3 → ℕ}
    (iq : ∀ a, oq a + S1x128x128.size a ≤ S1x2048x512.size a) (ik : ∀ a, ok a + S1x5x128x128.size a ≤ S1x32x512x128.size a)
    (ib0 : ∀ a, ob0 a + S1x1x128x640.size a ≤ S5x8x128x640.size a) (ib1 : ∀ a, ob1 a + S1x1x128x640.size a ≤ S5x8x128x640.size a)
    (iv0 : ∀ a, ov0 a + S1x640x128.size a ≤ S1x4096x1024.size a) (iv1 : ∀ a, ov1 a + S1x640x128.size a ≤ S1x4096x1024.size a)
    (hq : oq = ![0, 128 * j.val, 128 * hp.val]) (hk : ok = ![0, st.val, 128 * hp.val, 0]) (hb0 : ob0 = ![cs.val, 2 * hp.val, 0, 0])
    (hb1 : ob1 = ![cs.val, 2 * hp.val + 1, 0, 0]) (hv0 : ov0 = ![0, 128 * st.val, 256 * hp.val])
    (hv1 : ov1 = ![0, 128 * st.val, 256 * hp.val + 128]) (r c : Fin 128) :
    itemOut (F := Ideal) (View.ld x0 (Rect.unit oq S1x128x128.size iq)) (View.ld x1 (Rect.unit ok S1x5x128x128.size ik))
      (View.ld x3 (Rect.unit ob0 S1x1x128x640.size ib0)) (View.ld x3 (Rect.unit ob1 S1x1x128x640.size ib1))
      (View.ld x2 (Rect.unit ov0 S1x640x128.size iv0)) (View.ld x2 (Rect.unit ov1 S1x640x128.size iv1)) (ix2 r c)
      = rowOut x0 x1 x2 x3 st cs (⟨128 * j.val + r.val, by omega⟩ : Fin 2048) (⟨128 * hp.val + c.val, by omega⟩ : Fin 512) := by
  obtain ⟨h, hh⟩ : ∃ h : Fin 2, c.val / 64 = h.val := ⟨⟨c.val / 64, by omega⟩, rfl⟩
  have ehd : (⟨(128 * hp.val + c.val) / 64, by omega⟩ : Fin 8) = ⟨2 * hp.val + h.val, by omega⟩ := Fin.ext (by show _ / _ = 2 * hp.val + h.val; omega)
  rw [itemOut_apply _ _ _ _ _ _ r c h hh]
  unfold rowOut
  -- the scores agree
  have hs : score (View.ld x0 (Rect.unit oq S1x128x128.size iq)) (View.ld x1 (Rect.unit ok S1x5x128x128.size ik))
      (if h = 0 then View.ld x3 (Rect.unit ob0 S1x1x128x640.size ib0) else View.ld x3 (Rect.unit ob1 S1x1x128x640.size ib1)) r h
      = rowScore x0 x1 x3 st cs (⟨128 * j.val + r.val, by omega⟩ : Fin 2048) (⟨(128 * hp.val + c.val) / 64, by omega⟩ : Fin 8) := by
    funext κ
    rw [ehd]
    unfold score rowScore
    refine congrArg₂ (· + ·) (Finset.sum_congr rfl fun d _ => congrArg₂ (· * ·) ?_ ?_) ?_
    · refine ld_at x0 _ _ _ _ _ fun a => ?_
      subst hq; fin_cases a
      · rfl
      · rfl
      · show 128 * hp.val + (64 * h.val + d.val) = 64 * (2 * hp.val + h.val) + d.val; omega
    · refine ld_at x1 _ _ _ _ _ fun a => ?_
      subst hk; fin_cases a
      · rfl
      · rfl
      · show 128 * hp.val + (64 * h.val + d.val) = 64 * (2 * hp.val + h.val) + d.val; omega
      · exact Nat.zero_add _
    · have er : r.val = (128 * j.val + r.val) % 128 := by omega
      split_ifs with h0
      · refine ld_at x3 _ _ _ _ _ fun a => ?_
        subst hb0 h0; fin_cases a
        · rfl
        · rfl
        · exact (Nat.zero_add _).trans er
        · exact Nat.zero_add _
      · have h1 : h.val = 1 := by have : h.val ≠ 0 := fun e => h0 (Fin.ext e); omega
        refine ld_at x3 _ _ _ _ _ fun a => ?_
        subst hb1; fin_cases a
        · rfl
        · show 2 * hp.val + 1 + 0 = 2 * hp.val + h.val; omega
        · exact (Nat.zero_add _).trans er
        · exact Nat.zero_add _
  -- the values agree
  have hv : ∀ (κ : Fin 640) (e : Fin 128) (ch : Fin 1024) (_ : ch.val = 128 * ((128 * hp.val + c.val) / 64) + e.val),
      (if h = 0 then View.ld x2 (Rect.unit ov0 S1x640x128.size iv0) else View.ld x2 (Rect.unit ov1 S1x640x128.size iv1)) (ix3 (0 : Fin 1) κ e)
        = x2 (ix3 (0 : Fin 1) (⟨128 * st.val + κ.val, by omega⟩ : Fin 4096) ch) := by
    intro κ e ch hch
    split_ifs with h0
    · have h1 : h.val = 0 := by rw [h0]; rfl
      refine ld_at x2 _ _ _ _ _ fun a => ?_
      subst hv0; fin_cases a
      · rfl
      · rfl
      · show 256 * hp.val + e.val = ch.val; omega
    · have h1 : h.val = 1 := by have : h.val ≠ 0 := fun e => h0 (Fin.ext e); omega
      refine ld_at x2 _ _ _ _ _ fun a => ?_
      subst hv1; fin_cases a
      · rfl
      · rfl
      · show 256 * hp.val + 128 + e.val = ch.val; omega
  rw [hs]
  refine congrArg₂ Ideal.div (Finset.sum_congr rfl fun κ _ => congrArg₂ (· * ·) rfl ?_) (Finset.sum_congr rfl fun κ _ => congrArg₂ (· * ·) rfl ?_)
  · exact hv κ c _ (by show 128 * ((128 * hp.val + c.val) / 64) + (128 * hp.val + c.val) % 128 = _; omega)
  · exact hv κ _ _ (by show 128 * ((128 * hp.val + c.val) / 64) + (128 * hp.val + c.val + 64) % 128 = _ + (c.val + 64) % 128; omega)

/-- The first of the five key tiles of image-row pair `p`. -/
def startOf (p : Fin 32) : Fin 28 := ⟨min 27 (p.val - 2), by omega⟩

/-- The bias table of image-row pair `p`. -/
def caseOf (p : Fin 32) : Fin 5 := ⟨if p.val < 2 then p.val else if 30 ≤ p.val then p.val - 27 else 2, by split_ifs <;> omega⟩

/-- The image-row pair of pair `j` of the step at `i`. -/
def pairOf (i : grid0.Coords) (j : Fin 16) : Fin 32 := ⟨16 * (i 1).val + j.val, by have h : (i 1).val < 2 := (i 1).isLt; omega⟩

theorem qoff : ∀ j : Fin 16, let w := BitVec.ofNat 32 j.val; k0_off1 w = ![0, 128 * j.val, 128 * 0] ∧ k0_off5 w = ![0, 128 * j.val, 128 * 1]
    ∧ k0_off9 w = ![0, 128 * j.val, 128 * 2] ∧ k0_off15 w = ![0, 128 * j.val, 128 * 3] := by decide +kernel

theorem koff : ∀ (i : grid0.Coords) (j : Fin 16), let w := BitVec.ofNat 32 j.val; let s := (startOf (pairOf i j)).val
    k0_off2 i w = ![0, s, 128 * 0, 0] ∧ k0_off6 i w = ![0, s, 128 * 1, 0]
    ∧ k0_off10 i w = ![0, s, 128 * 2, 0] ∧ k0_off16 i w = ![0, s, 128 * 3, 0] := by decide +kernel

theorem boff : ∀ (i : grid0.Coords) (j : Fin 16), let w := BitVec.ofNat 32 j.val; let s := (caseOf (pairOf i j)).val
    k0_off3 i w = ![s, 2 * 0, 0, 0] ∧ k0_off4 i w = ![s, 2 * 0 + 1, 0, 0] ∧ k0_off7 i w = ![s, 2 * 1, 0, 0] ∧ k0_off8 i w = ![s, 2 * 1 + 1, 0, 0]
    ∧ k0_off11 i w = ![s, 2 * 2, 0, 0] ∧ k0_off12 i w = ![s, 2 * 2 + 1, 0, 0] ∧ k0_off17 i w = ![s, 2 * 3, 0, 0] ∧ k0_off18 i w = ![s, 2 * 3 + 1, 0, 0] := by decide +kernel

theorem voff : ∀ (i : grid0.Coords) (j : Fin 16), let w := BitVec.ofNat 32 j.val; let s := (startOf (pairOf i j)).val
    k0_off13 i w = ![0, 128 * s, 256 * 0] ∧ k0_off14 i w = ![0, 128 * s, 256 * 0 + 128] ∧ k0_off19 i w = ![0, 128 * s, 256 * 1] ∧ k0_off20 i w = ![0, 128 * s, 256 * 1 + 128]
    ∧ k0_off21 i w = ![0, 128 * s, 256 * 2] ∧ k0_off22 i w = ![0, 128 * s, 256 * 2 + 128] ∧ k0_off23 i w = ![0, 128 * s, 256 * 3] ∧ k0_off24 i w = ![0, 128 * s, 256 * 3 + 128] := by decide +kernel

/-- The block, entry by entry. -/
theorem blockOut_at (i : grid0.Coords) (ρ : Fin 2048) (ch : Fin 512) :
    blockOut (F := Ideal) i x0 x1 x2 x3 (ix3 (0 : Fin 1) ρ ch)
      = rowOut x0 x1 x2 x3 (startOf (pairOf i ⟨ρ.val / 128, by omega⟩)) (caseOf (pairOf i ⟨ρ.val / 128, by omega⟩)) ρ ch := by
  obtain ⟨j, hj⟩ : ∃ j : Fin 16, j = ⟨ρ.val / 128, by omega⟩ := ⟨_, rfl⟩
  obtain ⟨q0, q1, q2, q3⟩ := qoff j
  obtain ⟨k0, k1, k2, k3⟩ := koff i j
  obtain ⟨a0, b0, a1, b1, a2, b2, a3, b3⟩ := boff i j
  obtain ⟨c0, d0, c1, d1, c2, d2, c3, d3⟩ := voff i j
  have items : ∀ (n : Fin 4) (r c : Fin 128), (![item0 i x0 x1 x2 x3 j, item1 i x0 x1 x2 x3 j, item2 i x0 x1 x2 x3 j, item3 i x0 x1 x2 x3 j] n) (ix2 r c)
      = rowOut x0 x1 x2 x3 (startOf (pairOf i j)) (caseOf (pairOf i j)) (⟨128 * j.val + r.val, by omega⟩ : Fin 2048) (⟨128 * n.val + c.val, by omega⟩ : Fin 512) := by
    intro n r c
    fin_cases n
    · exact item_at j 0 _ _ _ _ _ _ _ _ q0 k0 a0 b0 c0 d0 r c
    · exact item_at j 1 _ _ _ _ _ _ _ _ q1 k1 a1 b1 c1 d1 r c
    · exact item_at j 2 _ _ _ _ _ _ _ _ q2 k2 a2 b2 c2 d2 r c
    · exact item_at j 3 _ _ _ _ _ _ _ _ q3 k3 a3 b3 c3 d3 r c
  show pairTerm (F := Ideal) i x0 x1 x2 x3 ⟨ρ.val / 128, _⟩ (ix3 (0 : Fin 1) (⟨ρ.val % 128, _⟩ : Fin 128) (⟨ch.val, _⟩ : Fin 512)) = _
  rw [← hj]
  refine (pairOut_apply ![item0 i x0 x1 x2 x3 j, item1 i x0 x1 x2 x3 j, item2 i x0 x1 x2 x3 j, item3 i x0 x1 x2 x3 j] _ _).trans ?_
  refine (items _ _ _).trans (congrArg₂ (rowOut x0 x1 x2 x3 _ _) ?_ ?_)
  · subst hj; exact Fin.ext (by show 128 * (ρ.val / 128) + ρ.val % 128 = ρ.val; omega)
  · exact Fin.ext (by show 128 * (ch.val / 128) + ch.val % 128 = ch.val; omega)

end Cert.Na
-- ==== Proof.Gather.lean ====
/- The three gathers of this certificate read at an index: the bias table at a pair of offsets, and the rows of an image. -/
module

public import proofs.«01_k».proof.Proof.Block
public import proofs.«01_k».proof.Proof.Gen.ReferenceIdeal.Read
public import Idealize.ShloMosaic.Lib.ValueIdxCore

@[expose] public section

set_option maxRecDepth 16384

noncomputable section

namespace Cert.Na

open Idealize.ShloMosaic Idealize.SL.Sem

/-- The kernel's bias gather: head `h`, and the two start indices, each clamped into the table. -/
theorem gather_bias {α : Type} (x : KernelIdeal.S8x15x31.Idx → α) (I : IVec KernelIdeal.S5x2x64x10x64x2 32) (h : Fin 8) (a : Fin 5) (rr : Fin 2)
    (c : Fin 64) (kk : Fin 10) (kc : Fin 64) :
    Host.gather KernelIdeal.gather_S8x15x31_S5x2x64x10x64x2_S8x5x2x64x10x64_0_12_n_n_12_5_811 x I (ix6 h a rr c kk kc)
      = x (ix3 h ⟨min (I (ix6 a rr c kk kc (0 : Fin 2))).toInt.toNat 14, by omega⟩ ⟨min (I (ix6 a rr c kk kc (1 : Fin 2))).toInt.toNat 30, by omega⟩) := by
  unfold Host.gather
  congr 1
  funext e
  refine Fin.ext ?_
  show GatherDims.start _ _ I e + GatherDims.batchCoord _ _ e + GatherDims.offCoord _ _ e = _
  have he : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases he with rfl | rfl | rfl
  · rw [GatherDims.batchCoord_eq_zero _ _ _ List.not_mem_nil]
    unfold GatherDims.start GatherDims.offCoord
    rw [dif_neg (by decide), dif_pos (by decide)]
    simp only [Nat.add_zero, Nat.zero_add]
    sl_kernel_rfl
  · rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi : KernelIdeal.gather_S8x15x31_S5x2x64x10x64x2_S8x5x2x64x10x64_0_12_n_n_12_5_811.siIdx (ix6 h a rr c kk kc)
        ⟨List.idxOf 1 KernelIdeal.gather_S8x15x31_S5x2x64x10x64x2_S8x5x2x64x10x64_0_12_n_n_12_5_811.startIndexMap, List.idxOf_lt_length_iff.2 (by decide)⟩ = ix6 a rr c kk kc (0 : Fin 2) := by
      funext b; refine Fin.ext ?_
      match b with
      | ⟨0, _⟩ => sl_kernel_rfl
      | ⟨1, _⟩ => sl_kernel_rfl
      | ⟨2, _⟩ => sl_kernel_rfl
      | ⟨3, _⟩ => sl_kernel_rfl
      | ⟨4, _⟩ => sl_kernel_rfl
      | ⟨5, _⟩ => sl_kernel_rfl
    rw [hsi]
    rfl
  · rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi : KernelIdeal.gather_S8x15x31_S5x2x64x10x64x2_S8x5x2x64x10x64_0_12_n_n_12_5_811.siIdx (ix6 h a rr c kk kc)
        ⟨List.idxOf 2 KernelIdeal.gather_S8x15x31_S5x2x64x10x64x2_S8x5x2x64x10x64_0_12_n_n_12_5_811.startIndexMap, List.idxOf_lt_length_iff.2 (by decide)⟩ = ix6 a rr c kk kc (1 : Fin 2) := by
      funext b; refine Fin.ext ?_
      match b with
      | ⟨0, _⟩ => sl_kernel_rfl
      | ⟨1, _⟩ => sl_kernel_rfl
      | ⟨2, _⟩ => sl_kernel_rfl
      | ⟨3, _⟩ => sl_kernel_rfl
      | ⟨4, _⟩ => sl_kernel_rfl
      | ⟨5, _⟩ => sl_kernel_rfl
    rw [hsi]
    rfl

/-- The reference's bias gather: head `h`, and the two start indices, each clamped into the table. -/
theorem gather_bias_ref {α : Type} (x : ReferenceIdeal.S8x15x31.Idx → α) (I : IVec ReferenceIdeal.S64x64x8x64x2 32) (h : Fin 8) (r : Fin 64) (c : Fin 64) (w : Fin 8) (kc : Fin 64) :
    Host.gather ReferenceIdeal.gather_S8x15x31_S64x64x8x64x2_S8x64x64x8x64_0_12_n_n_12_4_811 x I (ix5 h r c w kc)
      = x (ix3 h ⟨min (I (ix5 r c w kc (0 : Fin 2))).toInt.toNat 14, by omega⟩ ⟨min (I (ix5 r c w kc (1 : Fin 2))).toInt.toNat 30, by omega⟩) := by
  unfold Host.gather
  congr 1
  funext e
  refine Fin.ext ?_
  show GatherDims.start _ _ I e + GatherDims.batchCoord _ _ e + GatherDims.offCoord _ _ e = _
  have he : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases he with rfl | rfl | rfl
  · rw [GatherDims.batchCoord_eq_zero _ _ _ List.not_mem_nil]
    unfold GatherDims.start GatherDims.offCoord
    rw [dif_neg (by decide), dif_pos (by decide)]
    simp only [Nat.add_zero, Nat.zero_add]
    sl_kernel_rfl
  · rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi : ReferenceIdeal.gather_S8x15x31_S64x64x8x64x2_S8x64x64x8x64_0_12_n_n_12_4_811.siIdx (ix5 h r c w kc)
        ⟨List.idxOf 1 ReferenceIdeal.gather_S8x15x31_S64x64x8x64x2_S8x64x64x8x64_0_12_n_n_12_4_811.startIndexMap, List.idxOf_lt_length_iff.2 (by decide)⟩ = ix5 r c w kc (0 : Fin 2) := by
      funext b; refine Fin.ext ?_
      match b with
      | ⟨0, _⟩ => sl_kernel_rfl
      | ⟨1, _⟩ => sl_kernel_rfl
      | ⟨2, _⟩ => sl_kernel_rfl
      | ⟨3, _⟩ => sl_kernel_rfl
      | ⟨4, _⟩ => sl_kernel_rfl
    rw [hsi]
    rfl
  · rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi : ReferenceIdeal.gather_S8x15x31_S64x64x8x64x2_S8x64x64x8x64_0_12_n_n_12_4_811.siIdx (ix5 h r c w kc)
        ⟨List.idxOf 2 ReferenceIdeal.gather_S8x15x31_S64x64x8x64x2_S8x64x64x8x64_0_12_n_n_12_4_811.startIndexMap, List.idxOf_lt_length_iff.2 (by decide)⟩ = ix5 r c w kc (1 : Fin 2) := by
      funext b; refine Fin.ext ?_
      match b with
      | ⟨0, _⟩ => sl_kernel_rfl
      | ⟨1, _⟩ => sl_kernel_rfl
      | ⟨2, _⟩ => sl_kernel_rfl
      | ⟨3, _⟩ => sl_kernel_rfl
      | ⟨4, _⟩ => sl_kernel_rfl
    rw [hsi]
    rfl

/-- The row gather: of an image `x`, the row the start index names, clamped into the image. -/
theorem gather_rows {α : Type} (x : ReferenceIdeal.S4x64x64x8x64.Idx → α) (I : IVec ReferenceIdeal.S64x8x1 32) (b : Fin 4) (r : Fin 64) (w : Fin 8)
    (kc : Fin 64) (h : Fin 8) (d : Fin 64) :
    Host.gather ReferenceIdeal.gather_S4x64x64x8x64_S64x8x1_S4x64x8x64x8x64_0345_1_n_n_1_2_4164864 x I (ix6 b r w kc h d)
      = x (ix5 b ⟨min (I (ix3 r w (0 : Fin 1))).toInt.toNat 63, by omega⟩ kc h d) := by
  unfold Host.gather
  congr 1
  funext e
  refine Fin.ext ?_
  show GatherDims.start _ _ I e + GatherDims.batchCoord _ _ e + GatherDims.offCoord _ _ e = _
  have he : e = 1 ∨ e = 0 ∨ e = 2 ∨ e = 3 ∨ e = 4 := by
    match e with
    | ⟨0, _⟩ => exact Or.inr (Or.inl rfl)
    | ⟨1, _⟩ => exact Or.inl rfl
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases he with rfl | rfl | rfl | rfl | rfl
  · rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi : ReferenceIdeal.gather_S4x64x64x8x64_S64x8x1_S4x64x8x64x8x64_0345_1_n_n_1_2_4164864.siIdx (ix6 b r w kc h d)
        ⟨List.idxOf 1 ReferenceIdeal.gather_S4x64x64x8x64_S64x8x1_S4x64x8x64x8x64_0345_1_n_n_1_2_4164864.startIndexMap, List.idxOf_lt_length_iff.2 (by decide)⟩ = ix3 r w (0 : Fin 1) := by
      funext b; refine Fin.ext ?_
      match b with
      | ⟨0, _⟩ => sl_kernel_rfl
      | ⟨1, _⟩ => sl_kernel_rfl
      | ⟨2, _⟩ => sl_kernel_rfl
    rw [hsi]
    rfl
  all_goals
    rw [GatherDims.batchCoord_eq_zero _ _ _ List.not_mem_nil]
    unfold GatherDims.start GatherDims.offCoord
    rw [dif_neg (by decide), dif_pos (by decide)]
    simp only [Nat.add_zero, Nat.zero_add]
    sl_kernel_rfl

end Cert.Na
-- ==== Proof.Ref.lean ====
/- What the reference computes at an index: the softmax over the 8 rows and 64 columns of a query's window, times the values. -/
module

public import proofs.«01_k».proof.Proof.Gather
public import Idealize.ShloMosaic.Lib.Pointwise
public import Idealize.ShloMosaic.Lib.KernelVsHost
public import Idealize.ShloMosaic.Lib.TwoAxisContraction
public import Idealize.ShloMosaic.Lib.IdealHost

@[expose] public section

set_option maxRecDepth 16384

noncomputable section

namespace Cert.Na

open Idealize.ShloMosaic Idealize.SL.Sem Cert.ReferenceIdeal Cert.ReferenceIdeal.Gen Cert.ReferenceIdeal.Read

/-- The first row of the window of row `r`: four rows up, kept inside the image. -/
def rsOf (r : Fin 64) : Fin 57 := ⟨min (r.val - 4) 56, by omega⟩
/-- Row `w` of that window. -/
def rowOf (r : Fin 64) (w : Fin 8) : Fin 64 := ⟨(rsOf r).val + w.val, by omega⟩
/-- The vertical offset of a window row from the query's row, counted from −7. -/
def drOf (r : Fin 64) (w : Fin 8) : Fin 15 := ⟨min (min (r.val - 4) 56 + w.val + 7 - r.val) 14, by omega⟩
/-- The horizontal offset of a column from the query's, cut to ±15 and counted from −15. -/
def dcOf (c kc : Fin 64) : Fin 31 := ⟨min (kc.val + 15 - c.val) 30, by omega⟩
/-- The first column of the window of column `c`: eight columns left, kept inside the image. -/
def csOf (c : Fin 64) : ℕ := min (c.val - 8) 48
/-- Column `kc` lies in the window of column `c`. -/
abbrev colOk (c kc : Fin 64) : Prop := csOf c ≤ kc.val ∧ kc.val < csOf c + 16

theorem ref_row_k (r : Fin 64) (w : Fin 8) : min (val_main_v66 (F := Ideal) (ix3 r w (0 : Fin 1))).toInt.toNat 63 = (rowOf r w).val := by
  simp only [val_main_v66, val_main_v65, val_main_v64, val_main_v63, val_main_v62, val_main_v61, val_main_c_14, val_main_c_15, val_main_v9,
    val_main_v8, val_main_v7, val_main_v6, val_main_v5, val_main_v4, val_main_v3, val_main_call0_v4, val_main_call0_v3, val_main_call0_v2,
    val_main_call0_v1, val_main_call0_v0, val_main_c_0, val_main_c_1, val_main_v2, val_main_v1, val_main_c, val_main_v0]
  pointwise
  revert r w
  decide +kernel

theorem ref_row_v (r : Fin 64) (w : Fin 8) : min (val_main_v74 (F := Ideal) (ix3 r w (0 : Fin 1))).toInt.toNat 63 = (rowOf r w).val := by
  simp only [val_main_v74, val_main_v73, val_main_v72, val_main_v71, val_main_v70, val_main_v69, val_main_c_16, val_main_c_17, val_main_v9,
    val_main_v8, val_main_v7, val_main_v6, val_main_v5, val_main_v4, val_main_v3, val_main_call0_v4, val_main_call0_v3, val_main_call0_v2,
    val_main_call0_v1, val_main_call0_v0, val_main_c_0, val_main_c_1, val_main_v2, val_main_v1, val_main_c, val_main_v0]
  pointwise
  revert r w
  decide +kernel

/-- The reference's first index into the bias table. -/
theorem ref_dr (r c : Fin 64) (w : Fin 8) (kc : Fin 64) :
    min (val_main_v57 (F := Ideal) (ix5 r c w kc (0 : Fin 2))).toInt.toNat 14 = (drOf r w).val := by
  have e : val_main_v57 (F := Ideal) (ix5 r c w kc (0 : Fin 2)) = val_main_v47 (F := Ideal) (ix4 r (0 : Fin 1) w (0 : Fin 1)) := by
    simp only [val_main_v57, val_main_v55, val_main_v53]
    pointwise
  rw [e]
  clear e
  simp only [val_main_v47, val_main_v46, val_main_v45, val_main_v44, val_main_v43, val_main_v41, val_main_c_10, val_main_c_11, val_main_v32,
    val_main_v31, val_main_v30, val_main_v29, val_main_v28, val_main_c_6, val_main_v9,
    val_main_v8, val_main_v7, val_main_v6, val_main_v5, val_main_v4, val_main_v3, val_main_call0_v4, val_main_call0_v3, val_main_call0_v2,
    val_main_call0_v1, val_main_call0_v0, val_main_c_0, val_main_c_1, val_main_v2, val_main_v1, val_main_c, val_main_v0]
  pointwise
  revert r w
  decide +kernel

/-- The reference's second index into the bias table. -/
theorem ref_dc (r c : Fin 64) (w : Fin 8) (kc : Fin 64) :
    min (val_main_v57 (F := Ideal) (ix5 r c w kc (1 : Fin 2))).toInt.toNat 30 = (dcOf c kc).val := by
  have e : val_main_v57 (F := Ideal) (ix5 r c w kc (1 : Fin 2)) = val_main_v52 (F := Ideal) (ix4 (0 : Fin 1) c (0 : Fin 1) kc) := by
    simp only [val_main_v57, val_main_v56, val_main_v54]
    pointwise
  rw [e]
  clear e
  simp only [val_main_v52, val_main_v51, val_main_v50, val_main_v49, val_main_v48, val_main_v42, val_main_c_12, val_main_c_13, val_main_v40, val_main_v39,
    val_main_c_9, val_main_v38, val_main_call2_v4, val_main_call2_v3, val_main_call2_v2, val_main_call2_v1, val_main_call2_v0, val_main_c_7,
    val_main_c_8, val_main_v37, val_main_v36, val_main_v35, val_main_v34, val_main_v33, val_main_v14, val_main_v10]
  pointwise
  revert c kc
  decide +kernel

/-- The reference's column mask. -/
theorem ref_mask (b : Fin 4) (h : Fin 8) (r c : Fin 64) (w : Fin 8) (kc : Fin 64) :
    val_main_call3_v1 (F := Ideal) (ix6 b h r c w kc) = if colOk c kc then 1#1 else 0#1 := by
  simp only [val_main_call3_v1, val_main_v82, val_main_v27, val_main_v26, val_main_v25, val_main_v24, val_main_v23, val_main_v22, val_main_v21,
    val_main_v20, val_main_v19, val_main_v18, val_main_v17, val_main_v16, val_main_v15, val_main_v14, val_main_v13, val_main_v12, val_main_v11,
    val_main_v10, val_main_c_5, val_main_c_4, val_main_c_3, val_main_c_2,  val_main_call1_v4, val_main_call1_v3, val_main_call1_v2,
    val_main_call1_v1, val_main_call1_v0]
  pointwise
  revert c kc
  decide +kernel

variable (q k v : (⟨S4x4096x8x64, .f32⟩ : BufTy).Contents (Elt Ideal)) (rpb : (⟨S8x15x31, .f32⟩ : BufTy).Contents (Elt Ideal))

/-- The score of a query against key `p` of its window: the scaled product plus the bias, or −∞ outside the columns. -/
def refScore (b : Fin 4) (h : Fin 8) (r c : Fin 64) (p : Fin 8 × Fin 64) : EReal :=
  if colOk c p.2 then
    (∑ d : Fin 64, q (ix4 b ⟨r.val * 64 + c.val, by omega⟩ h d) * k (ix4 b ⟨(rowOf r p.1).val * 64 + p.2.val, by omega⟩ h d))
        * Ideal.ofBits .f32 0x3E000000#32 + rpb (ix3 h (drOf r p.1) (dcOf c p.2))
  else ⊥

theorem neg_inf : Ideal.ofBits FTy.f32 4286578688#32 = ⊥ := by simp [Ideal.ofBits, Ideal.ieee]

theorem ref_score (b : Fin 4) (h : Fin 8) (r c : Fin 64) (w : Fin 8) (kc : Fin 64) :
    val_main_v83 q k rpb (ix6 b h r c w kc) = refScore q k rpb b h r c (w, kc) := by
  simp only [val_main_v83, val_main_v81, val_main_v80, val_main_v79, val_main_v78, val_main_v77, val_main_call3_v2, val_main_call3_v0,
    val_main_cst_18, val_main_cst, val_main_v58, val_main_v76, val_main_v67, val_main_v60, val_main_v59]
  pointwise
  rw [ref_mask, gather_bias_ref]
  unfold refScore
  by_cases hc : colOk c kc
  · rw [if_pos hc, if_pos hc]
    have e1 : (⟨min (val_main_v57 (F := Ideal) (ix5 r c w kc (0 : Fin 2))).toInt.toNat 14, by omega⟩ : Fin 15) = drOf r w := Fin.ext (ref_dr r c w kc)
    have e2 : (⟨min (val_main_v57 (F := Ideal) (ix5 r c w kc (1 : Fin 2))).toInt.toNat 30, by omega⟩ : Fin 31) = dcOf c kc := Fin.ext (ref_dc r c w kc)
    rw [e1, e2]
    refine congrArg₂ (· + ·) (congrArg₂ (· * ·) (Finset.sum_congr rfl fun d _ => congrArg₂ (· * ·) rfl ?_) rfl) rfl
    rw [gather_rows]
    pointwise
    refine congrArg k ?_
    refine congrArg (fun z => ix4 b z h d) (Fin.ext ?_)
    show min _ 63 * 64 + kc.val = _
    rw [ref_row_k]
  · rw [if_neg hc, if_neg hc]
    exact neg_inf

end Cert.Na
-- ==== Proof.Host.lean ====
/- What the host hands the kernel: the scaled queries, the transposed keys, the values beside columns of ones, the bias tables. -/
module

public import proofs.«01_k».proof.Proof.Ref
public import Idealize.ShloMosaic.Lib.StableHlo.ReadAt

@[expose] public section

set_option maxRecDepth 16384

noncomputable section

namespace Cert.Na

open Idealize.ShloMosaic Idealize.SL.Sem Cert.KernelIdeal Cert.KernelIdeal.Gen

variable (m : (ℓ : Loc nD τ sig) → Buf (Elt Ideal) ℓ) (c : Dev nD)

/-- The four arguments. -/
abbrev argQ : FVec Ideal S4x4096x8x64 .f32 := m ((c.tc : Thread nD τ).loc main_arg0)
abbrev argK : FVec Ideal S4x4096x8x64 .f32 := m ((c.tc : Thread nD τ).loc main_arg1)
abbrev argV : FVec Ideal S4x4096x8x64 .f32 := m ((c.tc : Thread nD τ).loc main_arg2)
abbrev argB : FVec Ideal S8x15x31 .f32 := m ((c.tc : Thread nD τ).loc main_arg3)

/-- The queries, scaled, with the heads side by side. -/
theorem host_q (b : Fin 4) (s : Fin 4096) (ch : Fin 512) :
    V m c main_v3 (ix3 b s ch)
      = argQ m c (ix4 b s ⟨ch.val / 64, by omega⟩ ⟨ch.val % 64, by omega⟩) * Ideal.ofBits .f32 0x3E000000#32 := by
  dsimp only [V]
  after_reads_at

/-- The keys, each pair of rows transposed. -/
theorem host_k (b : Fin 4) (p : Fin 32) (ch : Fin 512) (l : Fin 128) :
    V m c main_v6 (ix4 b p ch l)
      = argK m c (ix4 b ⟨p.val * 128 + l.val, by omega⟩ ⟨ch.val / 64, by omega⟩ ⟨ch.val % 64, by omega⟩) := by
  dsimp only [V]
  after_reads_at

/-- The values of a head and, in the other half of its block, ones. -/
theorem host_v (b : Fin 4) (s : Fin 4096) (ch : Fin 512) :
    V m c main_v15 (ix3 b s (⟨128 * (ch.val / 64) + ch.val % 128, by omega⟩ : Fin 1024))
      = argV m c (ix4 b s ⟨ch.val / 64, by omega⟩ ⟨ch.val % 64, by omega⟩) := by
  dsimp only [V]
  repeat after_reads_at
  by_cases he : ch.val / 64 % 2 = 0
  · rw [dif_pos (by omega)]
    exact congrArg (argV m c) (congrArg₂ (ix4 b s) (Fin.ext (by show _ / 256 * 2 = ch.val / 64; omega)) (Fin.ext (by show _ % 256 = ch.val % 64; omega)))
  · rw [dif_neg (by omega), dif_neg (by omega), dif_neg (by omega)]
    exact congrArg (argV m c) (congrArg₂ (ix4 b s) (Fin.ext (by show _ / 256 * 2 + 1 = ch.val / 64; omega)) (Fin.ext (by show _ % 256 - 64 - 64 - 64 = ch.val % 64; omega)))

theorem host_one (b : Fin 4) (s : Fin 4096) (ch : Fin 512) :
    V m c main_v15 (ix3 b s (⟨128 * (ch.val / 64) + (ch.val + 64) % 128, by omega⟩ : Fin 1024)) = (1 : EReal) := by
  dsimp only [V]
  repeat after_reads_at
  by_cases he : ch.val / 64 % 2 = 0
  · rw [dif_neg (by omega), dif_pos (by omega)]
  · rw [dif_neg (by omega), dif_neg (by omega), dif_pos (by omega)]

/-- The window mask of the kernel's bias table: pair `p`, row `rr` of the pair, key row `kk` of its band. -/
abbrev rowOk (p : Fin 32) (rr : Fin 2) (kk : Fin 10) : Prop :=
  min (2 * p.val + rr.val - 4) 56 ≤ 2 * (startOf p).val + kk.val ∧ 2 * (startOf p).val + kk.val < min (2 * p.val + rr.val - 4) 56 + 8

/-- The host operations before the call, and the contents they start from. -/
abbrev line : List (HloOp τ sig (Elt Ideal)) :=
  List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14]

/-- The first index into the bias table, cut to it: the key row less the query row, counted from −7. -/
theorem host_dr (p : Fin 32) (rr : Fin 2) (cq : Fin 64) (kk : Fin 10) (kc : Fin 64) :
    (StableHlo.upto line (fun b => m (c, b)) 127 (Proc.tc.devRef main_v73) (ix6 (caseOf p) rr cq kk kc (0 : Fin 1)) : BitVec 32)
      = BitVec.ofNat 32 (min (2 * (startOf p).val + kk.val + 7 - (2 * p.val + rr.val)) 14) := by
  after_reads_at
  revert p rr kk
  decide +kernel

theorem host_dc (a : Fin 5) (rr : Fin 2) (cq : Fin 64) (kk : Fin 10) (kc : Fin 64) :
    (StableHlo.upto line (fun b => m (c, b)) 127 (Proc.tc.devRef main_v74) (ix6 a rr cq kk kc (0 : Fin 1)) : BitVec 32)
      = BitVec.ofNat 32 (dcOf cq kc).val := by
  after_reads_at
  revert cq kc
  decide +kernel

theorem concat_fst {α : Type} (x y : S5x2x64x10x64x1.Idx → α) (a : Fin 5) (rr : Fin 2) (cq : Fin 64) (kk : Fin 10) (kc : Fin 64) :
    concatenate S5x2x64x10x64x2 5 [⟨S5x2x64x10x64x1, x⟩, ⟨S5x2x64x10x64x1, y⟩]
        concatenates_S5x2x64x10x64x1_S5x2x64x10x64x1_S5x2x64x10x64x2_d5 (ix6 a rr cq kk kc (0 : Fin 2))
      = x (ix6 a rr cq kk kc (0 : Fin 1)) := by
  pointwise

theorem concat_snd {α : Type} (x y : S5x2x64x10x64x1.Idx → α) (a : Fin 5) (rr : Fin 2) (cq : Fin 64) (kk : Fin 10) (kc : Fin 64) :
    concatenate S5x2x64x10x64x2 5 [⟨S5x2x64x10x64x1, x⟩, ⟨S5x2x64x10x64x1, y⟩]
        concatenates_S5x2x64x10x64x1_S5x2x64x10x64x1_S5x2x64x10x64x2_d5 (ix6 a rr cq kk kc (1 : Fin 2))
      = y (ix6 a rr cq kk kc (0 : Fin 1)) := by
  pointwise

/-- The gather at a pair of index arrays. -/
theorem gather_pair {α : Type} (x : S8x15x31.Idx → α) (A B : IVec S5x2x64x10x64x1 32) (h : Fin 8) (a : Fin 5) (rr : Fin 2) (cq : Fin 64)
    (kk : Fin 10) (kc : Fin 64) :
    Host.gather gather_S8x15x31_S5x2x64x10x64x2_S8x5x2x64x10x64_0_12_n_n_12_5_811 x
        (concatenate S5x2x64x10x64x2 5 [⟨S5x2x64x10x64x1, A⟩, ⟨S5x2x64x10x64x1, B⟩]
          concatenates_S5x2x64x10x64x1_S5x2x64x10x64x1_S5x2x64x10x64x2_d5) (ix6 h a rr cq kk kc)
      = x (ix3 h ⟨min (A (ix6 a rr cq kk kc (0 : Fin 1))).toInt.toNat 14, by omega⟩
          ⟨min (B (ix6 a rr cq kk kc (0 : Fin 1))).toInt.toNat 30, by omega⟩) := by
  rw [gather_bias]
  refine congrArg₂ (fun u v => x (ix3 h u v)) (Fin.ext ?_) (Fin.ext ?_)
  · exact congrArg (fun w : BitVec 32 => min w.toInt.toNat 14) (concat_fst A B a rr cq kk kc)
  · exact congrArg (fun w : BitVec 32 => min w.toInt.toNat 30) (concat_snd A B a rr cq kk kc)

theorem word14 : ∀ n : Fin 15, min (BitVec.ofNat 32 n.val).toInt.toNat 14 = n.val := by decide +kernel
theorem word30 : ∀ n : Fin 31, min (BitVec.ofNat 32 n.val).toInt.toNat 30 = n.val := by decide +kernel

/-- A choice on two bits that say `P` and `Q`. -/
theorem select_and {α : Type} {P Q : Prop} [Decidable P] [Decidable Q] (a b : BitVec 1) (x x' y y' : α)
    (ha : a = if P then 1#1 else 0#1) (hb : b = if Q then 1#1 else 0#1) (hx : x = x') (hy : y = y') :
    Scalar.select (IntOp.andi a b) x y = if P ∧ Q then x' else y' := by
  subst ha hb hx hy
  by_cases hP : P <;> by_cases hQ : Q <;> simp [hP, hQ, Scalar.select, IntOp.andi]

/-- The bias table: inside the window the entry at the two offsets, outside −∞. -/
theorem host_b (p : Fin 32) (h : Fin 8) (rr : Fin 2) (cq : Fin 64) (kk : Fin 10) (kc : Fin 64) :
    V m c main_v85 (ix4 (caseOf p) h (⟨64 * rr.val + cq.val, by omega⟩ : Fin 128) (⟨64 * kk.val + kc.val, by omega⟩ : Fin 640))
      = if rowOk p rr kk ∧ colOk cq kc then
          argB m c (ix3 h ⟨min (2 * (startOf p).val + kk.val + 7 - (2 * p.val + rr.val)) 14, by omega⟩ (dcOf cq kc))
        else (⊥ : EReal) := by
  dsimp only [V]
  repeat after_reads_at
  refine select_and _ _ _ _ _ _ ?_ ?_ ?_ neg_inf
  · revert p rr kk
    decide +kernel
  · revert cq kc
    decide +kernel
  · refine (gather_pair _ _ _ h (caseOf p) rr cq kk kc).trans ?_
    refine congrArg₂ (fun u v => argB m c (ix3 h u v)) (Fin.ext ?_) (Fin.ext ?_)
    · exact (congrArg (fun w : BitVec 32 => min w.toInt.toNat 14) (host_dr m c p rr cq kk kc)).trans (word14 ⟨_, by omega⟩)
    · exact (congrArg (fun w : BitVec 32 => min w.toInt.toNat 30) (host_dc m c (caseOf p) rr cq kk kc)).trans (word30 (dcOf cq kc))

end Cert.Na
-- ==== Proof.Ref2.lean ====
/- The reference's reductions over the window's two axes, and its result at an index. -/
module

public import proofs.«01_k».proof.Proof.Ref

@[expose] public section

set_option maxRecDepth 16384

noncomputable section

namespace Cert.Na

open Idealize.ShloMosaic Idealize.SL.Sem Cert.ReferenceIdeal Cert.ReferenceIdeal.Gen Cert.ReferenceIdeal.Read

/-- The window's keys at one query. -/
def keyAt (b : Fin 4) (h : Fin 8) (r c : Fin 64) : Fin 8 × Fin 64 ↪ S4x8x64x64x8x64.Idx :=
  ⟨fun p => ix6 b h r c p.1 p.2, fun p p' e =>
    Prod.ext (congrFun e (4 : Fin 6)) (congrFun e (5 : Fin 6))⟩

theorem drop_keyAt (b : Fin 4) (h : Fin 8) (r c : Fin 64) (w : Fin 8) (kc : Fin 64) :
    Shape.ReducesTo.drop reducesTo_S4x8x64x64x8x64_S4x8x64x64_d4_5 (ix6 b h r c w kc) = ix4 b h r c := by
  funext e; refine Fin.ext ?_
  match e with
  | ⟨0, _⟩ => sl_kernel_rfl
  | ⟨1, _⟩ => sl_kernel_rfl
  | ⟨2, _⟩ => sl_kernel_rfl
  | ⟨3, _⟩ => sl_kernel_rfl

/-- The indices a reduction over the last two axes gathers at one query are that query's keys. -/
theorem filter_drop (b : Fin 4) (h : Fin 8) (r c : Fin 64) :
    (Finset.univ.filter fun i => Shape.ReducesTo.drop reducesTo_S4x8x64x64x8x64_S4x8x64x64_d4_5 i = ix4 b h r c)
      = Finset.univ.map (keyAt b h r c) := by
  ext i
  simp only [Finset.mem_filter, Finset.mem_univ, true_and, Finset.mem_map]
  constructor
  · intro hi
    obtain ⟨b', h', r', c', w, kc, rfl⟩ : ∃ (b' : Fin 4) (h' : Fin 8) (r' c' : Fin 64) (w : Fin 8) (kc : Fin 64), i = ix6 b' h' r' c' w kc :=
      ⟨_, _, _, _, _, _, eq_ix6 i⟩
    rw [drop_keyAt] at hi
    refine ⟨(w, kc), ?_⟩
    have e0 : b' = b := congrFun hi (0 : Fin 4)
    have e1 : h' = h := congrFun hi (1 : Fin 4)
    have e2 : r' = r := congrFun hi (2 : Fin 4)
    have e3 : c' = c := congrFun hi (3 : Fin 4)
    subst e0 e1 e2 e3
    rfl
  · rintro ⟨p, rfl⟩
    exact drop_keyAt b h r c p.1 p.2

/-- The sum over the window. -/
theorem sum_keys (x : FVec Ideal S4x8x64x64x8x64 .f32) (init : FVec Ideal S_ .f32) (b : Fin 4) (h : Fin 8) (r c : Fin 64) :
    Host.reduceAdd x init reducesTo_S4x8x64x64x8x64_S4x8x64x64_d4_5 h_S_ (ix4 b h r c)
      = init (Shape.Idx.first h_S_) + ∑ p : Fin 8 × Fin 64, x (ix6 b h r c p.1 p.2) := by
  show Ideal.hostReduceAdd reducesTo_S4x8x64x64x8x64_S4x8x64x64_d4_5 x (init (Shape.Idx.first h_S_)) _ = _
  unfold Ideal.hostReduceAdd
  rw [filter_drop, Finset.sum_map]
  rfl

/-- The maximum over the window. -/
theorem max_keys (x : FVec Ideal S4x8x64x64x8x64 .f32) (b : Fin 4) (h : Fin 8) (r c : Fin 64) :
    Host.reduce FloatOps.maximumf x (constant S_ .f32 0xFF800000#32) reducesTo_S4x8x64x64x8x64_S4x8x64x64_d4_5 h_S_ (ix4 b h r c)
      = Finset.univ.fold max ⊥ fun p : Fin 8 × Fin 64 => x (ix6 b h r c p.1 p.2) := by
  have hR : Shape.Reduces S4x8x64x64x8x64 [4, 5] S4x8x64x64 := by decide
  rw [hostReduce_maximumf_eq_multiReduction x 0xFF800000#32 reducesTo_S4x8x64x64x8x64_S4x8x64x64_d4_5 h_S_ hR (by decide) (by decide),
    multiReduction_maximumf_eq_fold]
  have hf : (Finset.univ.filter fun i => hR.drop i = ix4 b h r c) = Finset.univ.map (keyAt b h r c) := by
    rw [← filter_drop]
    refine Finset.filter_congr fun i _ => ?_
    rw [Shape.ReducesTo.drop_eq_drop reducesTo_S4x8x64x64x8x64_S4x8x64x64_d4_5 hR]
  rw [hf, Finset.fold_map]
  have e : (FloatOps.ofBits .f32 0xFF800000#32 : Ideal .f32) = (⊥ : EReal) := neg_inf
  rw [e]
  rfl

/-- The product with the values, summed over the window. -/
theorem dot_keys (x : FVec Ideal S4x64x8x64x8x64 .f32) (y : FVec Ideal S4x8x64x64x8x64 .f32) (b : Fin 4) (h : Fin 8) (r c d : Fin 64) :
    Host.dotGeneral dot_S4x64x8x64x8x64_S4x8x64x64x8x64_S4x64x8x64x64_32_54_5_3_014_021 none x y (ix5 b r h d c)
      = ∑ p : Fin 8 × Fin 64, x (ix6 b r p.1 p.2 h d) * y (ix6 b h r c p.1 p.2) := by
  set D := dot_S4x64x8x64x8x64_S4x8x64x64x8x64_S4x64x8x64x64_32_54_5_3_014_021
  show FloatOps.dotGeneral D none _ x y _ = _
  have hr : D.contr.rank = 2 := rfl
  have c0 : D.contr.size ⟨0, by rw [hr]; omega⟩ = 64 := rfl
  have c1 : D.contr.size ⟨1, by rw [hr]; omega⟩ = 8 := rfl
  rw [Ideal.dotGeneral_apply, ValueIdx.sum_contr2 D 64 8 hr c0 c1, Fintype.sum_prod_type, Finset.sum_comm]
  refine Finset.sum_congr rfl fun w _ => Finset.sum_congr rfl fun kc _ => ?_
  have h0 := ValueIdx.contrEquiv2_symm_val0 D 64 8 hr c0 c1 (kc, w)
  have h1 := ValueIdx.contrEquiv2_symm_val1 D 64 8 hr c0 c1 (kc, w)
  have el : D.lhsIdx (ix5 b r h d c) ((ValueIdx.contrEquiv2 D 64 8 hr c0 c1).symm (kc, w)) = ix6 b r w kc h d := by
    funext a; apply Fin.ext
    match a with
    | ⟨0, _⟩ => rfl
    | ⟨1, _⟩ => rfl
    | ⟨2, _⟩ => exact h1
    | ⟨3, _⟩ => exact h0
    | ⟨4, _⟩ => rfl
    | ⟨5, _⟩ => rfl
  have er : D.rhsIdx (ix5 b r h d c) ((ValueIdx.contrEquiv2 D 64 8 hr c0 c1).symm (kc, w)) = ix6 b h r c w kc := by
    funext a; apply Fin.ext
    match a with
    | ⟨0, _⟩ => rfl
    | ⟨1, _⟩ => rfl
    | ⟨2, _⟩ => rfl
    | ⟨3, _⟩ => rfl
    | ⟨4, _⟩ => exact h1
    | ⟨5, _⟩ => exact h0
  rw [el, er]

variable (q k v : (⟨S4x4096x8x64, .f32⟩ : BufTy).Contents (Elt Ideal)) (rpb : (⟨S8x15x31, .f32⟩ : BufTy).Contents (Elt Ideal))

/-- The value of channel `d` of head `h` at key `p` of the window of row `r`. -/
def refVal (b : Fin 4) (h : Fin 8) (r d : Fin 64) (p : Fin 8 × Fin 64) : EReal :=
  v (ix4 b ⟨(rowOf r p.1).val * 64 + p.2.val, by omega⟩ h d)

theorem ref_max (b : Fin 4) (h : Fin 8) (r c : Fin 64) :
    val_main_v84 q k rpb (ix4 b h r c) = Finset.univ.fold max ⊥ (refScore q k rpb b h r c) := by
  refine (max_keys _ b h r c).trans ?_
  refine congrArg (fun f => Finset.univ.fold max ⊥ f) (funext fun p => ?_)
  exact ref_score q k rpb b h r c p.1 p.2

theorem ref_exp (b : Fin 4) (h : Fin 8) (r c : Fin 64) (p : Fin 8 × Fin 64) :
    val_main_v88 q k rpb (ix6 b h r c p.1 p.2)
      = Ideal.exp (refScore q k rpb b h r c p - Finset.univ.fold max ⊥ (refScore q k rpb b h r c)) := by
  simp only [val_main_v88, val_main_v87, val_main_v86, val_main_v85]
  pointwise
  rw [ref_score, ref_max]

theorem ref_sum (b : Fin 4) (h : Fin 8) (r c : Fin 64) :
    val_main_v89 q k rpb (ix4 b h r c)
      = ∑ p, Ideal.exp (refScore q k rpb b h r c p - Finset.univ.fold max ⊥ (refScore q k rpb b h r c)) := by
  refine (sum_keys _ _ b h r c).trans ?_
  have e : (val_main_cst_20 (F := Ideal)) (Shape.Idx.first h_S_) = (0 : EReal) := Ideal.ofBits_zero_f32
  rw [e, zero_add]
  exact Finset.sum_congr rfl fun p _ => ref_exp q k rpb b h r c p

/-- The reference's result at an index. -/
theorem ref_at (b : Fin 4) (s : Fin 4096) (ch : Fin 512) :
    val_main_v96 q k v rpb (ix3 b s ch)
      = ∑ p, refVal v b ⟨ch.val / 64, by omega⟩ ⟨s.val / 64, by omega⟩ ⟨ch.val % 64, by omega⟩ p *
          Ideal.div (Ideal.exp (refScore q k rpb b ⟨ch.val / 64, by omega⟩ ⟨s.val / 64, by omega⟩ ⟨s.val % 64, by omega⟩ p
            - Finset.univ.fold max ⊥ (refScore q k rpb b ⟨ch.val / 64, by omega⟩ ⟨s.val / 64, by omega⟩ ⟨s.val % 64, by omega⟩)))
          (∑ p, Ideal.exp (refScore q k rpb b ⟨ch.val / 64, by omega⟩ ⟨s.val / 64, by omega⟩ ⟨s.val % 64, by omega⟩ p
            - Finset.univ.fold max ⊥ (refScore q k rpb b ⟨ch.val / 64, by omega⟩ ⟨s.val / 64, by omega⟩ ⟨s.val % 64, by omega⟩))) := by
  have e0 : val_main_v96 q k v rpb (ix3 b s ch) = val_main_v93 q k v rpb (ix5 b ⟨s.val / 64, by omega⟩ ⟨ch.val / 64, by omega⟩
      ⟨ch.val % 64, by omega⟩ ⟨s.val % 64, by omega⟩) := by
    simp only [val_main_v96, val_main_v95, val_main_v94]
    pointwise
  rw [e0, val_main_v93]
  refine (dot_keys _ _ _ _ _ _ _).trans ?_
  refine Finset.sum_congr rfl fun p _ => congrArg₂ (· * ·) ?_ ?_
  · rw [val_main_v75, gather_rows]
    simp only [val_main_v68]
    pointwise
    refine congrArg v (congrArg (fun z => ix4 b z _ _) (Fin.ext ?_))
    show min _ 63 * 64 + p.2.val = _
    rw [ref_row_v]
  · simp only [val_main_v92, val_main_v91, val_main_v90]
    pointwise
    rw [ref_exp, ref_sum]

end Cert.Na
-- ==== Proof.Window.lean ====
/- A query's attention over the 640 staged keys under the bias table is its attention over its 8 × 64 window. -/
module

public import proofs.«01_k».proof.Proof.Softmax
public import proofs.«01_k».proof.Proof.Host
public import proofs.«01_k».proof.Proof.Ref2

@[expose] public section

set_option maxRecDepth 16384

noncomputable section

namespace Cert.Na

open Idealize.ShloMosaic Idealize.SL.Sem Cert.KernelIdeal Cert.KernelIdeal.Gen

/-- What a grid point's input blocks hold, in terms of queries, keys, values and the bias table. -/
structure Blocks (q k v : FVec Ideal S4x4096x8x64 .f32) (rpb : FVec Ideal S8x15x31 .f32) (b : Fin 4) (step : Fin 2)
    (x0 : Vec Ideal S1x2048x512 .bf16) (x1 : Vec Ideal S1x32x512x128 .bf16) (x2 : Vec Ideal S1x4096x1024 .bf16)
    (x3 : Vec Ideal S5x8x128x640 .f32) : Prop where
  hq : ∀ (ρ : Fin 2048) (ch : Fin 512), x0 (ix3 (0 : Fin 1) ρ ch)
    = (q (ix4 b ⟨2048 * step.val + ρ.val, by omega⟩ ⟨ch.val / 64, by omega⟩ ⟨ch.val % 64, by omega⟩) : EReal) * Ideal.ofBits .f32 0x3E000000#32
  hk : ∀ (p : Fin 32) (ch : Fin 512) (l : Fin 128), x1 (ix4 (0 : Fin 1) p ch l)
    = k (ix4 b ⟨p.val * 128 + l.val, by omega⟩ ⟨ch.val / 64, by omega⟩ ⟨ch.val % 64, by omega⟩)
  hv : ∀ (s : Fin 4096) (ch : Fin 512), x2 (ix3 (0 : Fin 1) s (⟨128 * (ch.val / 64) + ch.val % 128, by omega⟩ : Fin 1024))
    = v (ix4 b s ⟨ch.val / 64, by omega⟩ ⟨ch.val % 64, by omega⟩)
  hone : ∀ (s : Fin 4096) (ch : Fin 512), x2 (ix3 (0 : Fin 1) s (⟨128 * (ch.val / 64) + (ch.val + 64) % 128, by omega⟩ : Fin 1024)) = (1 : EReal)
  hb : ∀ (p : Fin 32) (h : Fin 8) (rr : Fin 2) (cq : Fin 64) (kk : Fin 10) (kc : Fin 64),
    x3 (ix4 (caseOf p) h (⟨64 * rr.val + cq.val, by omega⟩ : Fin 128) (⟨64 * kk.val + kc.val, by omega⟩ : Fin 640))
      = if rowOk p rr kk ∧ colOk cq kc then
          rpb (ix3 h ⟨min (2 * (startOf p).val + kk.val + 7 - (2 * p.val + rr.val)) 14, by omega⟩ (dcOf cq kc))
        else (⊥ : EReal)

theorem eighth : Ideal.ofBits .f32 0x3E000000#32 = ((1 / 8 : ℝ) : EReal) := by
  simp [Ideal.ofBits, Ideal.ieee]
  rw [← EReal.coe_mul]
  norm_num

variable {q k v : FVec Ideal S4x4096x8x64 .f32} {rpb : FVec Ideal S8x15x31 .f32} {b : Fin 4} {step : Fin 2}
    {x0 : Vec Ideal S1x2048x512 .bf16} {x1 : Vec Ideal S1x32x512x128 .bf16} {x2 : Vec Ideal S1x4096x1024 .bf16}
    {x3 : Vec Ideal S5x8x128x640 .f32}

/-- The row a pair of rows and a parity name. -/
abbrev rowAt (p : Fin 32) (rr : Fin 2) : Fin 64 := ⟨2 * p.val + rr.val, by omega⟩

/-- The place, among the 640 staged keys, of a key of the window. -/
def place (p : Fin 32) (rr : Fin 2) (w : Fin 8 × Fin 64) : Fin 640 :=
  ⟨((rsOf (rowAt p rr)).val - 2 * (startOf p).val + w.1.val) * 64 + w.2.val, by
    have h1 : (rsOf (rowAt p rr)).val = min (2 * p.val + rr.val - 4) 56 := rfl
    have h2 : (startOf p).val = min 27 (p.val - 2) := rfl
    omega⟩

theorem start_le (p : Fin 32) (rr : Fin 2) : 2 * (startOf p).val ≤ (rsOf (rowAt p rr)).val := by
  show 2 * min 27 (p.val - 2) ≤ min (2 * p.val + rr.val - 4) 56
  omega

theorem place_injective (p : Fin 32) (rr : Fin 2) : Function.Injective (place p rr) := by
  rintro ⟨w, kc⟩ ⟨w', kc'⟩ h
  have h' : ((rsOf (rowAt p rr)).val - 2 * (startOf p).val + w.val) * 64 + kc.val
      = ((rsOf (rowAt p rr)).val - 2 * (startOf p).val + w'.val) * 64 + kc'.val := congrArg Fin.val h
  exact Prod.ext (Fin.ext (by show w.val = w'.val; omega)) (Fin.ext (by show kc.val = kc'.val; omega))

/-- The product of a query and a key of the sequence. -/
def dotOf (q k : FVec Ideal S4x4096x8x64 .f32) (b : Fin 4) (hd : Fin 8) (s s' : Fin 4096) : EReal :=
  ∑ d : Fin 64, (q (ix4 b s hd d) : EReal) * k (ix4 b s' hd d)

theorem dotOf_real (hq : ∀ i, IsReal (q i)) (hk : ∀ i, IsReal (k i)) (hd : Fin 8) (s s' : Fin 4096) : IsReal (dotOf q k b hd s s') :=
  isReal_sum _ _ fun _ _ => (hq _).mul (hk _)

variable (H : Blocks q k v rpb b step x0 x1 x2 x3)
include H

/-- A score of the block, from the queries, keys and bias. -/
theorem score_at (p : Fin 32) (rr : Fin 2) (cq : Fin 64) (ρ : Fin 2048) (hρ : 2048 * step.val + ρ.val = 64 * (2 * p.val + rr.val) + cq.val)
    (hd : Fin 8) (κ : Fin 640) :
    rowScore x0 x1 x3 (startOf p) (caseOf p) ρ hd κ
      = dotOf q k b hd ⟨2048 * step.val + ρ.val, by omega⟩ ⟨128 * (startOf p).val + κ.val, by omega⟩ * Ideal.ofBits .f32 0x3E000000#32
        + if rowOk p rr ⟨κ.val / 64, by omega⟩ ∧ colOk cq ⟨κ.val % 64, by omega⟩ then
            rpb (ix3 hd ⟨min (2 * (startOf p).val + κ.val / 64 + 7 - (2 * p.val + rr.val)) 14, by omega⟩ (dcOf cq ⟨κ.val % 64, by omega⟩))
          else (⊥ : EReal) := by
  unfold rowScore dotOf
  refine congrArg₂ (· + ·) ?_ ?_
  · rw [eighth, sum_mul_coe _ _ (by norm_num)]
    refine Finset.sum_congr rfl fun d _ => ?_
    rw [H.hq, H.hk, eighth, mul_right_comm]
    refine congrArg (· * _) (congrArg₂ (· * ·) (congrArg q (congrArg₂ (ix4 b _) ?_ ?_)) (congrArg k ?_))
    · exact Fin.ext (by show (64 * hd.val + d.val) / 64 = hd.val; omega)
    · exact Fin.ext (by show (64 * hd.val + d.val) % 64 = d.val; omega)
    · have e1 : (⟨((startOf p).val + κ.val / 128) * 128 + κ.val % 128, by omega⟩ : Fin 4096) = ⟨128 * (startOf p).val + κ.val, by omega⟩ :=
        Fin.ext (by show ((startOf p).val + κ.val / 128) * 128 + κ.val % 128 = 128 * (startOf p).val + κ.val; omega)
      have e2 : (⟨(64 * hd.val + d.val) / 64, by omega⟩ : Fin 8) = hd := Fin.ext (by show (64 * hd.val + d.val) / 64 = hd.val; omega)
      have e3 : (⟨(64 * hd.val + d.val) % 64, by omega⟩ : Fin 64) = d := Fin.ext (by show (64 * hd.val + d.val) % 64 = d.val; omega)
      show ix4 b (⟨((startOf p).val + κ.val / 128) * 128 + κ.val % 128, _⟩ : Fin 4096) (⟨(64 * hd.val + d.val) / 64, _⟩ : Fin 8)
        (⟨(64 * hd.val + d.val) % 64, _⟩ : Fin 64) = _
      rw [e1, e2, e3]
  · refine Eq.trans (congrArg x3 ?_) (H.hb p hd rr cq ⟨κ.val / 64, by omega⟩ ⟨κ.val % 64, by omega⟩)
    refine congrArg₂ (ix4 (caseOf p) hd) (Fin.ext ?_) (Fin.ext ?_)
    · show ρ.val % 128 = 64 * rr.val + cq.val; omega
    · show κ.val = 64 * (κ.val / 64) + κ.val % 64; omega

theorem score_place (p : Fin 32) (rr : Fin 2) (cq : Fin 64) (ρ : Fin 2048) (hρ : 2048 * step.val + ρ.val = 64 * (2 * p.val + rr.val) + cq.val)
    (hq : ∀ i, IsReal (q i)) (hk : ∀ i, IsReal (k i)) (hd : Fin 8) (w : Fin 8 × Fin 64) :
    rowScore x0 x1 x3 (startOf p) (caseOf p) ρ hd (place p rr w) = refScore q k rpb b hd (rowAt p rr) cq w := by
  obtain ⟨w, kc⟩ := w
  rw [score_at H p rr cq ρ hρ]
  have hs := start_le p rr
  have hr : (rsOf (rowAt p rr)).val = min (2 * p.val + rr.val - 4) 56 := rfl
  have hv : (place p rr (w, kc)).val = ((rsOf (rowAt p rr)).val - 2 * (startOf p).val + w.val) * 64 + kc.val := rfl
  have hm : (⟨(place p rr (w, kc)).val % 64, by omega⟩ : Fin 64) = kc := Fin.ext (by show (place p rr (w, kc)).val % 64 = kc.val; omega)
  have hkk : 2 * (startOf p).val + (place p rr (w, kc)).val / 64 = min (2 * p.val + rr.val - 4) 56 + w.val := by omega
  have hrow : rowOk p rr ⟨(place p rr (w, kc)).val / 64, by omega⟩ := by
    show _ ≤ 2 * (startOf p).val + (place p rr (w, kc)).val / 64 ∧ 2 * (startOf p).val + (place p rr (w, kc)).val / 64 < _
    omega
  have hidx : (⟨min (2 * (startOf p).val + (place p rr (w, kc)).val / 64 + 7 - (2 * p.val + rr.val)) 14, by omega⟩ : Fin 15)
      = drOf (rowAt p rr) w := Fin.ext (by
    show min (2 * (startOf p).val + (place p rr (w, kc)).val / 64 + 7 - (2 * p.val + rr.val)) 14
      = min (min (2 * p.val + rr.val - 4) 56 + w.val + 7 - (2 * p.val + rr.val)) 14
    rw [hkk])
  have e1 : (⟨2048 * step.val + ρ.val, by omega⟩ : Fin 4096) = ⟨(rowAt p rr).val * 64 + cq.val, by omega⟩ :=
    Fin.ext (by show 2048 * step.val + ρ.val = (2 * p.val + rr.val) * 64 + cq.val; omega)
  have e2 : (⟨128 * (startOf p).val + (place p rr (w, kc)).val, by omega⟩ : Fin 4096) = ⟨(rowOf (rowAt p rr) w).val * 64 + kc.val, by omega⟩ :=
    Fin.ext (by show 128 * (startOf p).val + (place p rr (w, kc)).val = ((rsOf (rowAt p rr)).val + w.val) * 64 + kc.val; omega)
  rw [hm, hidx, e1, e2]
  unfold refScore
  by_cases hc : colOk cq kc
  · rw [if_pos ⟨hrow, hc⟩, if_pos hc]; rfl
  · rw [if_neg fun h => hc h.2, if_neg hc, EReal.add_bot]

/-- The block's entry is the reference's sum over the window. -/
theorem rowOut_eq (p : Fin 32) (rr : Fin 2) (cq : Fin 64) (ρ : Fin 2048) (hρ : 2048 * step.val + ρ.val = 64 * (2 * p.val + rr.val) + cq.val)
    (hq : ∀ i, IsReal (q i)) (hk : ∀ i, IsReal (k i)) (hr : ∀ i, IsReal (rpb i)) (ch : Fin 512) :
    rowOut x0 x1 x2 x3 (startOf p) (caseOf p) ρ ch
      = ∑ w, refVal v b ⟨ch.val / 64, by omega⟩ (rowAt p rr) ⟨ch.val % 64, by omega⟩ w *
          Ideal.div (Ideal.exp (refScore q k rpb b ⟨ch.val / 64, by omega⟩ (rowAt p rr) cq w
            - Finset.univ.fold max ⊥ (refScore q k rpb b ⟨ch.val / 64, by omega⟩ (rowAt p rr) cq)))
          (∑ w, Ideal.exp (refScore q k rpb b ⟨ch.val / 64, by omega⟩ (rowAt p rr) cq w
            - Finset.univ.fold max ⊥ (refScore q k rpb b ⟨ch.val / 64, by omega⟩ (rowAt p rr) cq))) := by
  have hs := start_le p rr
  have hS : ∀ (κ : Fin 640), IsReal (dotOf q k b ⟨ch.val / 64, by omega⟩ ⟨2048 * step.val + ρ.val, by omega⟩
      ⟨128 * (startOf p).val + κ.val, by omega⟩ * Ideal.ofBits .f32 0x3E000000#32) := fun κ =>
    (dotOf_real hq hk _ _ _).mul ⟨_, eighth⟩
  obtain ⟨s, hsd⟩ : ∃ s : Fin 640 → EReal, s = rowScore x0 x1 x3 (startOf p) (caseOf p) ρ ⟨ch.val / 64, by omega⟩ := ⟨_, rfl⟩
  have hsp : ∀ w, s (place p rr w) = refScore q k rpb b ⟨ch.val / 64, by omega⟩ (rowAt p rr) cq w := fun w => by
    rw [hsd]; exact score_place H p rr cq ρ hρ hq hk _ w
  have key := softmax_window (place_injective p rr) s
    (fun κ => x2 (ix3 (0 : Fin 1) (⟨128 * (startOf p).val + κ.val, by omega⟩ : Fin 4096)
      (⟨128 * (ch.val / 64) + ch.val % 128, by omega⟩ : Fin 1024))) ?_ ?_ ?_
  · unfold rowOut
    rw [← hsd]
    have hden : (∑ κ : Fin 640, wt s κ * x2 (ix3 (0 : Fin 1) (⟨128 * (startOf p).val + κ.val, by omega⟩ : Fin 4096)
        (⟨128 * (ch.val / 64) + (ch.val + 64) % 128, by omega⟩ : Fin 1024))) = ∑ κ, wt s κ :=
      Finset.sum_congr rfl fun κ _ => by rw [H.hone, mul_one]
    rw [hden]
    refine key.trans ?_
    simp only [hsp]
    refine Finset.sum_congr rfl fun w _ => congrArg (· * _) ?_
    rw [H.hv]
    refine congrArg (fun z => v (ix4 b z _ _)) (Fin.ext ?_)
    show 128 * (startOf p).val + (((rsOf (rowAt p rr)).val - 2 * (startOf p).val + w.1.val) * 64 + w.2.val)
      = ((rsOf (rowAt p rr)).val + w.1.val) * 64 + w.2.val
    omega
  · intro κ hκ
    rw [hsd, score_at H p rr cq ρ hρ, if_neg, EReal.add_bot]
    rintro ⟨⟨h1, h2⟩, -⟩
    have h1' : min (2 * p.val + rr.val - 4) 56 ≤ 2 * (startOf p).val + κ.val / 64 := h1
    have h2' : 2 * (startOf p).val + κ.val / 64 < min (2 * p.val + rr.val - 4) 56 + 8 := h2
    have hrs : (rsOf (rowAt p rr)).val = min (2 * p.val + rr.val - 4) 56 := rfl
    refine hκ (⟨2 * (startOf p).val + κ.val / 64 - (rsOf (rowAt p rr)).val, by omega⟩, ⟨κ.val % 64, by omega⟩) (Fin.ext ?_)
    show ((rsOf (rowAt p rr)).val - 2 * (startOf p).val + (2 * (startOf p).val + κ.val / 64 - (rsOf (rowAt p rr)).val)) * 64 + κ.val % 64 = κ.val
    omega
  · intro κ
    rw [hsd, score_at H p rr cq ρ hρ]
    split
    · exact .inr ((hS κ).add (hr _))
    · exact .inl (EReal.add_bot _)
  · have hc : colOk cq ⟨csOf cq, by unfold csOf; omega⟩ := ⟨le_rfl, by show csOf cq < csOf cq + 16; omega⟩
    refine ⟨place p rr (0, ⟨csOf cq, by unfold csOf; omega⟩), ?_⟩
    rw [hsp]
    unfold refScore
    rw [if_pos hc]
    exact ((dotOf_real hq hk _ _ _).mul ⟨_, eighth⟩).add (hr _)

end Cert.Na
-- ==== Proof.Finite.lean ====
/- What the precondition says: the queries, the keys and the bias table are real numbers. -/
module

public import proofs.«01_k».proof.Defs
public import proofs.«01_k».proof.Proof.Gen.Pre_finite
public import proofs.«01_k».proof.Proof.Softmax

@[expose] public section

noncomputable section

namespace Cert.Na

open Idealize.ShloMosaic Idealize.SL.Sem

theorem pos_inf : Ideal.ofBits FTy.f32 0x7F800000#32 = ⊤ := by simp [Ideal.ofBits, Ideal.ieee]

/-- A number whose absolute value is below infinity is real. -/
theorem isReal_of_abs (x : EReal) (h : Ideal.cmp .olt (max x (-x)) (Ideal.ofBits .f32 0x7F800000#32) = 1#1) : IsReal x := by
  rw [pos_inf] at h
  induction x using EReal.rec with
  | bot => simp [Ideal.cmp] at h
  | top => simp [Ideal.cmp] at h
  | coe r => exact ⟨r, rfl⟩

variable {m : (ℓ : Loc Cert.KernelIdeal.nD Cert.KernelIdeal.τ Cert.KernelIdeal.sig) → Buf (Elt Ideal) ℓ} (h : Cert.Pre_KernelIdeal_finite m)
  (c : Dev Cert.KernelIdeal.nD)
include h

theorem real_q (i : Cert.KernelIdeal.S4x4096x8x64.Idx) :
    IsReal (m ((c.tc : Thread Cert.KernelIdeal.nD Cert.KernelIdeal.τ).loc Cert.KernelIdeal.main_arg0) i) :=
  isReal_of_abs _ (congrFun (h c).1 i)

theorem real_k (i : Cert.KernelIdeal.S4x4096x8x64.Idx) :
    IsReal (m ((c.tc : Thread Cert.KernelIdeal.nD Cert.KernelIdeal.τ).loc Cert.KernelIdeal.main_arg1) i) :=
  isReal_of_abs _ (congrFun (h c).2.1 i)

theorem real_b (i : Cert.KernelIdeal.S8x15x31.Idx) :
    IsReal (m ((c.tc : Thread Cert.KernelIdeal.nD Cert.KernelIdeal.τ).loc Cert.KernelIdeal.main_arg3) i) :=
  isReal_of_abs _ (congrFun (h c).2.2 i)

end Cert.Na
-- ==== Proof.Stage.lean ====
/- The blocks of the call's windows, read off their arrays. -/
module

public import proofs.«01_k».proof.Proof.Block
public import Idealize.ShloMosaic.Lib.Pipeline.ValueKit

@[expose] public section

set_option maxRecDepth 16384

noncomputable section

namespace Cert.Na

open Idealize.ShloMosaic Idealize.ShloMosaic.TcCoe Idealize.SL.Sem Cert.KernelIdeal Cert.KernelIdeal.Gen
open Idealize.ShloMosaic.Pipeline (Dat)

/-- The windows' block indices at every grid point. -/
theorem idx : ∀ t : Fin cfg0.N, win0_0.index t = ![(grid0.coords t 0).val, (grid0.coords t 1).val, 0]
    ∧ win0_1.index t = ![(grid0.coords t 0).val, 0, 0, 0]
    ∧ win0_2.index t = ![(grid0.coords t 0).val, 0, 0]
    ∧ win0_3.index t = ![0, 0, 0, 0]
    ∧ win0_4.index t = ![(grid0.coords t 0).val, (grid0.coords t 1).val, 0] :=
  (by decide +kernel : ∀ t : Fin grid0.N, _)

/-- A point's batch. -/
def batchOf (t : Fin cfg0.N) : Fin 4 := ⟨(grid0.coords t 0).val, (grid0.coords t 0).isLt⟩
/-- A point's half of the sequence. -/
def stepOf (t : Fin cfg0.N) : Fin 2 := ⟨(grid0.coords t 1).val, (grid0.coords t 1).isLt⟩

/-- A window's block read off an array, window by window. -/
theorem read0_of (t : Fin cfg0.N) (A : S4x4096x512.Idx → EReal) (ρ : Fin 2048) (ch : Fin 512) (b : Fin 4) (z : Fin 4096)
    (hb : (grid0.coords t 0).val = b.val) (hz : z.val = 2048 * (grid0.coords t 1).val + ρ.val) :
    ((cfg0.win 0).blk t).view.read (Elt Ideal) A (ix3 (0 : Fin 1) ρ ch) = A (ix3 b z ch) := by
  blk_ext [idx t, hb, hz]

theorem read0 (t : Fin cfg0.N) (A : S4x4096x512.Idx → EReal) (ρ : Fin 2048) (ch : Fin 512) :
    ((cfg0.win 0).blk t).view.read (Elt Ideal) A (ix3 (0 : Fin 1) ρ ch)
      = A (ix3 (batchOf t) (⟨2048 * (stepOf t).val + ρ.val, by omega⟩ : Fin 4096) ch) :=
  read0_of t A ρ ch _ _ rfl rfl

theorem read1 (t : Fin cfg0.N) (A : S4x32x512x128.Idx → EReal) (p : Fin 32) (ch : Fin 512) (l : Fin 128) :
    ((cfg0.win 1).blk t).view.read (Elt Ideal) A (ix4 (0 : Fin 1) p ch l) = A (ix4 (batchOf t) p ch l) := by
  have hb : (grid0.coords t 0).val = (batchOf t).val := rfl
  generalize batchOf t = b at *
  blk_ext [idx t, hb]

theorem read2 (t : Fin cfg0.N) (A : S4x4096x1024.Idx → EReal) (s : Fin 4096) (ch : Fin 1024) :
    ((cfg0.win 2).blk t).view.read (Elt Ideal) A (ix3 (0 : Fin 1) s ch) = A (ix3 (batchOf t) s ch) := by
  have hb : (grid0.coords t 0).val = (batchOf t).val := rfl
  generalize batchOf t = b at *
  blk_ext [idx t, hb]

theorem read3 (t : Fin cfg0.N) (A : S5x8x128x640.Idx → EReal) (a : Fin 5) (h : Fin 8) (r : Fin 128) (k : Fin 640) :
    ((cfg0.win 3).blk t).view.read (Elt Ideal) A (ix4 a h r k) = A (ix4 a h r k) := by
  blk_ext [idx t]

theorem read4_of (t : Fin cfg0.N) (A : S4x4096x512.Idx → EReal) (ρ : Fin 2048) (ch : Fin 512) (b : Fin 4) (z : Fin 4096)
    (hb : (grid0.coords t 0).val = b.val) (hz : z.val = 2048 * (grid0.coords t 1).val + ρ.val) :
    A (((cfg0.win 4).blk t).view.emb (ix3 (0 : Fin 1) ρ ch)) = A (ix3 b z ch) := by
  blk_ext [idx t, hb, hz]

theorem read4 (t : Fin cfg0.N) (A : S4x4096x512.Idx → EReal) (ρ : Fin 2048) (ch : Fin 512) :
    A (((cfg0.win 4).blk t).view.emb (ix3 (0 : Fin 1) ρ ch))
      = A (ix3 (batchOf t) (⟨2048 * (stepOf t).val + ρ.val, by omega⟩ : Fin 4096) ch) :=
  read4_of t A ρ ch _ _ rfl rfl

theorem covers4 : (cfg0.win 4).Covers := by decide +kernel

end Cert.Na
-- ==== Proof.Result.lean ====
/- The kernel's output array is the reference's result. -/
module

public import proofs.«01_k».proof.Proof.Window
public import proofs.«01_k».proof.Proof.Finite
public import proofs.«01_k».proof.Proof.Stage
public import proofs.«01_k».proof.Proof.Gen.KernelIdeal.Value
public import Idealize.ShloMosaic.Lib.Pipeline.ValueKit

@[expose] public section

set_option maxRecDepth 16384

noncomputable section

namespace Cert.Na

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The staged blocks of a grid point, in terms of the arguments. -/
theorem blocks_at (t : Fin cfg0.N) :
    Blocks (argQ m c) (argK m c) (argV m c) (argB m c) (batchOf t) (stepOf t) (iblk m c 0 t) (iblk m c 1 t) (iblk m c 2 t) (iblk m c 3 t) where
  hq ρ ch := (read0 t (V m c main_v3) ρ ch).trans (host_q m c _ _ _)
  hk p ch l := (read1 t (V m c main_v6) p ch l).trans (host_k m c _ _ _ _)
  hv s ch := (read2 t (V m c main_v15) s _).trans (host_v m c _ _ _)
  hone s ch := (read2 t (V m c main_v15) s _).trans (host_one m c _ _ _)
  hb p h rr cq kk kc := (read3 t (V m c main_v85) _ _ _ _).trans (host_b m c p h rr cq kk kc)

/-- The reference's result at this program's arguments. -/
abbrev target : S4x4096x512.Idx → EReal := fun i => Cert.ReferenceIdeal.Read.val_main_v96 (F := Ideal) (argQ m c) (argK m c) (argV m c) (argB m c) i

theorem block_target (h : Cert.Pre_KernelIdeal_finite m) (t : Fin cfg0.N) (ρ : Fin 2048) (ch : Fin 512) :
    blockOut (F := Ideal) (grid0.coords t) (iblk m c 0 t) (iblk m c 1 t) (iblk m c 2 t) (iblk m c 3 t) (ix3 (0 : Fin 1) ρ ch)
      = target m c (ix3 (batchOf t) (⟨2048 * (stepOf t).val + ρ.val, by omega⟩ : Fin 4096) ch) := by
  have hst : (stepOf t).val = (grid0.coords t 1).val := rfl
  have hp : (pairOf (grid0.coords t) ⟨ρ.val / 128, by omega⟩).val = 16 * (stepOf t).val + ρ.val / 128 := rfl
  rw [blockOut_at]
  refine (rowOut_eq (blocks_at m c t) _ (⟨ρ.val / 64 % 2, by omega⟩ : Fin 2) (⟨ρ.val % 64, by omega⟩ : Fin 64) ρ ?_ (real_q h c) (real_k h c) (real_b h c) ch).trans ?_
  · rw [hp]
    show 2048 * (stepOf t).val + ρ.val = 64 * (2 * (16 * (stepOf t).val + ρ.val / 128) + ρ.val / 64 % 2) + ρ.val % 64
    omega
  · refine Eq.trans ?_ (ref_at (argQ m c) (argK m c) (argV m c) (argB m c) (batchOf t) _ ch).symm
    have e1 : rowAt (pairOf (grid0.coords t) ⟨ρ.val / 128, by omega⟩) (⟨ρ.val / 64 % 2, by omega⟩ : Fin 2)
        = (⟨(2048 * (stepOf t).val + ρ.val) / 64, by omega⟩ : Fin 64) := Fin.ext (by
      show 2 * (16 * (stepOf t).val + ρ.val / 128) + ρ.val / 64 % 2 = (2048 * (stepOf t).val + ρ.val) / 64
      omega)
    have e2 : (⟨ρ.val % 64, by omega⟩ : Fin 64) = (⟨(2048 * (stepOf t).val + ρ.val) % 64, by omega⟩ : Fin 64) := Fin.ext (by
      show ρ.val % 64 = (2048 * (stepOf t).val + ρ.val) % 64
      omega)
    rw [e1, e2]

/-- The output array after the run. -/
theorem final (h : Cert.Pre_KernelIdeal_finite m) : (dats m 0 c).arrAt 4 cfg0.N = target m c := by
  refine (dats m 0 c).arrAt_eq_of_covers 4 _ covers4 fun t hf y => ?_
  refine Eq.trans (b := blockOut (F := Ideal) (grid0.coords t) (iblk m c 0 t) (iblk m c 1 t) (iblk m c 2 t) (iblk m c 3 t) y) ?_ ?_
  · blk_simp
    rw [after0_4]
    exact out_eq _ _ _ _ _ _ _ _ _ _ _ _ _ _ _ _ _
  · obtain ⟨z, ρ, ch, rfl⟩ : ∃ (z : Fin 1) (ρ : Fin 2048) (ch : Fin 512), y = ix3 z ρ ch := ⟨y 0, y 1, y 2, eq_ix3 y⟩
    obtain rfl : z = 0 := Subsingleton.elim _ _
    exact (block_target m c h t ρ ch).trans (read4 t (target m c) ρ ch).symm

end Cert.Na
-- ==== Proof.FfnRow.lean ====
/- The block after the mixers, for one token: the gated sum of the three branches, the output projection, the norm and the squared-ReLU network. -/
module

public import Idealize.ShloMosaic.Lib.Pointwise
public import Idealize.ShloMosaic.Lib.IdealHost

@[expose] public section

noncomputable section

namespace Cert.Ffn

open Idealize.ShloMosaic

/-- One token's data and the weights. -/
structure Row where
  /-- the token before the block -/
  x : Fin 1024 → EReal
  /-- the attention's output -/
  ona : Fin 512 → EReal
  /-- the real part of the position transform -/
  yr : Fin 512 → EReal
  /-- the imaginary part, with its sign turned -/
  yi : Fin 512 → EReal
  /-- the memory branch's output -/
  om : Fin 512 → EReal
  /-- the gates of the three branches -/
  g : Fin 3 → Fin 1024 → EReal
  /-- the channel transform's cosines -/
  ct : Fin 128 → Fin 128 → EReal
  /-- its sines -/
  st : Fin 128 → Fin 128 → EReal
  wna : Fin 512 → Fin 1024 → EReal
  wf : Fin 512 → Fin 1024 → EReal
  wmo : Fin 512 → Fin 1024 → EReal
  wout : Fin 1024 → Fin 1024 → EReal
  gain : Fin 1024 → EReal
  w1 : Fin 1024 → Fin 4096 → EReal
  w2 : Fin 4096 → Fin 1024 → EReal

namespace Row

variable (D : Row)

/-- Channel `ch` of the Fourier mix: the channel transform inside the group of 128 that holds it. -/
def mix (ch : Fin 512) : EReal :=
  (∑ c : Fin 128, D.yr ⟨128 * (ch.val / 128) + c.val, by omega⟩ * D.ct c ⟨ch.val % 128, by omega⟩)
    + ∑ c : Fin 128, D.yi ⟨128 * (ch.val / 128) + c.val, by omega⟩ * D.st c ⟨ch.val % 128, by omega⟩

/-- The gated sum of the branches. -/
def merged (n : Fin 1024) : EReal :=
  D.g 0 n * (∑ k, D.ona k * D.wna k n) + D.g 1 n * (∑ k, D.mix k * D.wf k n) + D.g 2 n * (∑ k, D.om k * D.wmo k n)

/-- The token after the output projection. -/
def mid (n : Fin 1024) : EReal := D.x n + ∑ k, D.merged k * D.wout k n

/-- The reciprocal root mean square. -/
def scale : EReal :=
  Ideal.rsqrt (Ideal.div (∑ k, D.mid k * D.mid k) (Ideal.ofBits .f32 0x44800000#32) + Ideal.ofBits .f32 0x358637BD#32)

/-- The normed token. -/
def normed (n : Fin 1024) : EReal := D.mid n * D.scale * D.gain n

/-- A hidden unit. -/
def hidden (j : Fin 4096) : EReal := max (∑ k, D.normed k * D.w1 k j) 0

/-- The result. -/
def out (n : Fin 1024) : EReal := D.mid n + ∑ j, D.hidden j * D.hidden j * D.w2 j n

end Row

end Cert.Ffn
-- ==== Proof.FfnBody.lean ====
/- What the kernel body computes from its loads, token by token. -/
module

public import proofs.«01_k».proof.Proof.FfnRow
public import proofs.«01_k».proof.Proof.Gen.Kernel2Ideal.Value
public import Idealize.ShloMosaic.Lib.Pipeline.ValueKit

@[expose] public section

set_option maxRecDepth 16384

noncomputable section

namespace Cert.Ffn

open Idealize.ShloMosaic Idealize.SL.Sem Cert.Kernel2Ideal Cert.Kernel2Ideal.Gen

/-- A group's product with the stacked table. -/
theorem pay2_at (v0 v2 : Vec Ideal S1x512x512 .bf16) (w : Vec Ideal S256x128 .bf16) (ρ ch : Fin 512) :
    k0_pay2 (F := Ideal) v0 v2 w w w w (ix2 ρ ch)
      = (∑ c : Fin 128, v0 (ix3 (0 : Fin 1) ρ (⟨128 * (ch.val / 128) + c.val, by omega⟩ : Fin 512)) * w (ix2 (⟨c.val, by omega⟩ : Fin 256) (⟨ch.val % 128, by omega⟩ : Fin 128)))
        + ∑ c : Fin 128, v2 (ix3 (0 : Fin 1) ρ (⟨128 * (ch.val / 128) + c.val, by omega⟩ : Fin 512)) * w (ix2 (⟨128 + c.val, by omega⟩ : Fin 256) (⟨ch.val % 128, by omega⟩ : Fin 128)) := by
  unfold k0_pay2
  pointwise
  have term : ∀ (v : Vec Ideal S1x512x512 .bf16) (o o' e e' : ℕ) (r : ℕ) (_ : r ≤ 128) (h1 : ∀ c : Fin 128, o + c.val < 512) (h2 : ∀ c : Fin 128, o' + c.val < 512)
      (h3 : e < 128) (h4 : e' < 128) (_ : o = o') (_ : e = e'),
      (∑ c : Fin 128, v (ix3 (0 : Fin 1) ρ (⟨o + c.val, h1 c⟩ : Fin 512)) * w (ix2 (⟨r + c.val, by omega⟩ : Fin 256) (⟨e, h3⟩ : Fin 128)))
        = ∑ c : Fin 128, v (ix3 (0 : Fin 1) ρ (⟨o' + c.val, h2 c⟩ : Fin 512)) * w (ix2 (⟨r + c.val, by omega⟩ : Fin 256) (⟨e', h4⟩ : Fin 128)) := by
    intro v o o' e e' r _ h1 h2 h3 h4 ho he
    subst ho he
    rfl
  have hz : ∀ c : Fin 128, (⟨c.val, by omega⟩ : Fin 256) = ⟨0 + c.val, by omega⟩ := fun c => Fin.ext (Nat.zero_add _).symm
  have hz' : ∀ c : Fin 128, (⟨c.val, by omega⟩ : Fin 512) = ⟨0 + c.val, by omega⟩ := fun c => Fin.ext (Nat.zero_add _).symm
  simp only [hz, hz']
  split_ifs
  all_goals exact congrArg₂ (· + ·) (term v0 _ _ _ _ 0 (by omega) _ _ _ _ (by omega) (by omega)) (term v2 _ _ _ _ 128 (by omega) _ _ _ _ (by omega) (by omega))

theorem pay5_at (v29 : FVec Ideal S512x512 .bf16) (v32 : FVec Ideal S512x1024 .f32) (v34 : FVec Ideal S512x512 .bf16) (v35 v39 v42 v47 : Vec Ideal S512x1024 .bf16)
    (v50 : Vec Ideal S512x512 .bf16) (v52 : Vec Ideal S512x1024 .bf16) (v57 : Vec Ideal S512x1024 .f32) (v60 : Vec Ideal S1024x1024 .bf16) (ρ : Fin 512) (n : Fin 1024) :
    k0_pay5 (F := Ideal) v29 v32 v34 v35 v39 v42 v47 v50 v52 v57 v60 (ix2 ρ n)
      = v57 (ix2 ρ n) + ∑ k : Fin 1024, (v32 (ix2 ρ k) * (∑ j : Fin 512, v34 (ix2 ρ j) * v35 (ix2 j k)) + v39 (ix2 ρ k) * (∑ j : Fin 512, v29 (ix2 ρ j) * v42 (ix2 j k))
          + v47 (ix2 ρ k) * (∑ j : Fin 512, v50 (ix2 ρ j) * v52 (ix2 j k))) * v60 (ix2 k n) := by
  unfold k0_pay5
  pointwise

theorem pay6_at (v29 : FVec Ideal S512x512 .bf16) (v32 : FVec Ideal S512x1024 .f32) (v34 : FVec Ideal S512x512 .bf16) (v35 v39 v42 v47 : Vec Ideal S512x1024 .bf16)
    (v50 : Vec Ideal S512x512 .bf16) (v52 : Vec Ideal S512x1024 .bf16) (v57 : Vec Ideal S512x1024 .f32) (v60 : Vec Ideal S1024x1024 .bf16) (ρ : Fin 512) (n : Fin 1024) :
    k0_pay6 (F := Ideal) v29 v32 v34 v35 v39 v42 v47 v50 v52 v57 v60 (ix2 ρ n)
      = k0_pay5 (F := Ideal) v29 v32 v34 v35 v39 v42 v47 v50 v52 v57 v60 (ix2 ρ n)
        * Ideal.rsqrt (Ideal.div (∑ k : Fin 1024, k0_pay5 (F := Ideal) v29 v32 v34 v35 v39 v42 v47 v50 v52 v57 v60 (ix2 ρ k) * k0_pay5 (F := Ideal) v29 v32 v34 v35 v39 v42 v47 v50 v52 v57 v60 (ix2 ρ k))
            (Ideal.ofBits .f32 0x44800000#32) + Ideal.ofBits .f32 0x358637BD#32) := by
  unfold k0_pay6
  generalize k0_pay5 (F := Ideal) v29 v32 v34 v35 v39 v42 v47 v50 v52 v57 v60 = z
  pointwise

theorem pay1_at (v63 v73 : FVec Ideal S512x1024 .f32) (v74 : Vec Ideal S1x1024 .f32) (v79 : Vec Ideal S1024x4096 .bf16) (v86 : Vec Ideal S4096x1024 .bf16) (ρ : Fin 512) (n : Fin 1024) :
    k0_pay1 (F := Ideal) v63 v73 v74 v79 v86 (ix2 ρ n)
      = v63 (ix2 ρ n) + ∑ j : Fin 4096, (max (∑ k : Fin 1024, v73 (ix2 ρ k) * v74 (ix2 (0 : Fin 1) k) * v79 (ix2 k j)) 0
          * max (∑ k : Fin 1024, v73 (ix2 ρ k) * v74 (ix2 (0 : Fin 1) k) * v79 (ix2 k j)) 0) * v86 (ix2 j n) := by
  unfold k0_pay1
  pointwise

/-- What the body's values are at token `ρ`, in terms of the token's data. -/
structure Loads (D : Row) (ρ : Fin 512) (v29 : FVec Ideal S512x512 .bf16) (v32 : FVec Ideal S512x1024 .f32) (v34 : FVec Ideal S512x512 .bf16)
    (v35 v39 v42 v47 : Vec Ideal S512x1024 .bf16) (v50 : Vec Ideal S512x512 .bf16) (v52 : Vec Ideal S512x1024 .bf16) (v57 : Vec Ideal S512x1024 .f32)
    (v60 : Vec Ideal S1024x1024 .bf16) : Prop where
  h29 : ∀ k, v29 (ix2 ρ k) = D.mix k
  h32 : ∀ k, v32 (ix2 ρ k) = D.g 0 k
  h34 : ∀ k, v34 (ix2 ρ k) = D.ona k
  h35 : ∀ j k, v35 (ix2 j k) = D.wna j k
  h39 : ∀ k, v39 (ix2 ρ k) = D.g 1 k
  h42 : ∀ j k, v42 (ix2 j k) = D.wf j k
  h47 : ∀ k, v47 (ix2 ρ k) = D.g 2 k
  h50 : ∀ k, v50 (ix2 ρ k) = D.om k
  h52 : ∀ j k, v52 (ix2 j k) = D.wmo j k
  h57 : ∀ k, v57 (ix2 ρ k) = D.x k
  h60 : ∀ j k, v60 (ix2 j k) = D.wout j k

section
variable {D : Row} {ρ : Fin 512} {v29 : FVec Ideal S512x512 .bf16} {v32 : FVec Ideal S512x1024 .f32} {v34 : FVec Ideal S512x512 .bf16}
    {v35 v39 v42 v47 : Vec Ideal S512x1024 .bf16} {v50 : Vec Ideal S512x512 .bf16} {v52 : Vec Ideal S512x1024 .bf16} {v57 : Vec Ideal S512x1024 .f32}
    {v60 : Vec Ideal S1024x1024 .bf16}

theorem mid_at (h : Loads D ρ v29 v32 v34 v35 v39 v42 v47 v50 v52 v57 v60) (n : Fin 1024) :
    k0_pay5 (F := Ideal) v29 v32 v34 v35 v39 v42 v47 v50 v52 v57 v60 (ix2 ρ n) = D.mid n := by
  rw [pay5_at]
  simp only [h.h29, h.h32, h.h34, h.h35, h.h39, h.h42, h.h47, h.h50, h.h52, h.h57, h.h60]
  rfl

theorem scaled_at (h : Loads D ρ v29 v32 v34 v35 v39 v42 v47 v50 v52 v57 v60) (n : Fin 1024) :
    k0_pay6 (F := Ideal) v29 v32 v34 v35 v39 v42 v47 v50 v52 v57 v60 (ix2 ρ n) = D.mid n * D.scale := by
  rw [pay6_at]
  simp only [mid_at h]
  rfl

end

theorem out_of {D : Row} {ρ : Fin 512} {v63 v73 : FVec Ideal S512x1024 .f32} {v74 : Vec Ideal S1x1024 .f32} {v79 : Vec Ideal S1024x4096 .bf16}
    {v86 : Vec Ideal S4096x1024 .bf16} (h63 : ∀ k, v63 (ix2 ρ k) = D.mid k) (h73 : ∀ k, v73 (ix2 ρ k) = D.mid k * D.scale)
    (h74 : ∀ k, v74 (ix2 (0 : Fin 1) k) = D.gain k) (h79 : ∀ k j, v79 (ix2 k j) = D.w1 k j) (h86 : ∀ j n, v86 (ix2 j n) = D.w2 j n) (n : Fin 1024) :
    k0_pay1 (F := Ideal) v63 v73 v74 v79 v86 (ix2 ρ n) = D.out n := by
  rw [pay1_at]
  simp only [h63, h73, h74, h79, h86]
  rfl

/-- A load at an index is the block there. -/
theorem ld_at {S : Shape} {e : EltTy} {Val : EltTy → Type} (x : S.Idx → Val e) (off size : Fin S.rank → ℕ) (inb : ∀ a, off a + size a ≤ S.size a)
    (y : (Rect.unit off size inb).shape.Idx) (z : S.Idx) (h : ∀ a, off a + (y a).val = (z a).val) :
    View.ld x (Rect.unit off size inb) y = x z := by
  refine congrArg x (funext fun a => Fin.ext ?_)
  show off a + 1 * (y a).val = _
  rw [one_mul]; exact h a

variable (x0 : Vec Ideal S512x1024 .f32) (x1 : Vec Ideal S512x512 .bf16) (x2 : Vec Ideal S2x512x512 .bf16) (x3 : Vec Ideal S512x512 .bf16)
    (x4 : Vec Ideal S512x3072 .bf16) (x5 : Vec Ideal S256x128 .bf16) (x6 x7 x8 : Vec Ideal S512x1024 .bf16) (x9 : Vec Ideal S1024x1024 .bf16)
    (x10 : Vec Ideal S1x1024 .f32) (x11 : Vec Ideal S1024x4096 .bf16) (x12 : Vec Ideal S4096x1024 .bf16)

/-- Token `ρ` of the staged blocks. -/
def blockRow (ρ : Fin 512) : Row where
  x n := x0 (ix2 ρ n)
  ona k := x1 (ix2 ρ k)
  yr k := x2 (ix3 (0 : Fin 2) ρ k)
  yi k := x2 (ix3 (1 : Fin 2) ρ k)
  om k := x3 (ix2 ρ k)
  g b n := x4 (ix2 ρ (⟨1024 * b.val + n.val, by omega⟩ : Fin 3072))
  ct c k := x5 (ix2 (⟨c.val, by omega⟩ : Fin 256) k)
  st c k := x5 (ix2 (⟨128 + c.val, by omega⟩ : Fin 256) k)
  wna k n := x6 (ix2 k n)
  wf k n := x7 (ix2 k n)
  wmo k n := x8 (ix2 k n)
  wout k n := x9 (ix2 k n)
  gain n := x10 (ix2 (0 : Fin 1) n)
  w1 k j := x11 (ix2 k j)
  w2 j n := x12 (ix2 j n)

/-- The block the body leaves, token by token. -/
theorem block_at (ρ : Fin 512) (n : Fin 1024) :
    out0_13 (F := Ideal) x0 x1 x2 x3 x4 x5 x6 x7 x8 x9 x10 x11 x12 (ix2 ρ n) = (blockRow x0 x1 x2 x3 x4 x5 x6 x7 x8 x9 x10 x11 x12 ρ).out n := by
  unfold out0_13 k0_pay7 k0_pay8 k0_pay9
  have z2 : (![0, 0] : Fin 2 → ℕ) = fun _ => 0 := by funext a; fin_cases a <;> rfl
  rw [View.canon_unit_zero z2]
  have l2 : ∀ {a b a' b' : ℕ} {e : EltTy} (x : (⟨2, ![a, b]⟩ : Shape).Idx → Elt Ideal e) (o : ℕ) (inb) (i : Fin a') (j : Fin b') (i' : Fin a) (j' : Fin b)
      (_ : i.val = i'.val) (_ : o + j.val = j'.val), View.ld x (Rect.unit (s := ⟨2, ![a, b]⟩) ![0, o] (⟨2, ![a', b']⟩ : Shape).size inb) (ix2 i j) = x (ix2 i' j') := by
    intro a b a' b' e x o inb i j i' j' h0 h1
    refine ld_at x _ _ _ _ _ fun c => ?_
    fin_cases c
    · exact (Nat.zero_add _).trans h0
    · exact h1
  have L : Loads (blockRow x0 x1 x2 x3 x4 x5 x6 x7 x8 x9 x10 x11 x12 ρ)
      ρ (k0_pay2 (View.ld x2 r0_0) (View.ld x2 r0_1) (View.ld x5 r0_2) (View.ld x5 r0_2) (View.ld x5 r0_2) (View.ld x5 r0_2)) (k0_pay3 (View.ld x4 r0_3))
      (k0_pay4 (View.ld x1 r0_4)) (View.ld x6 r0_5) (View.ld x4 r0_6) (View.ld x7 r0_5) (View.ld x4 r0_7) (View.ld x3 r0_4) (View.ld x8 r0_5) (View.ld x0 r0_5)
      (View.ld x9 r0_8) := by
    refine ⟨fun k => ?_, fun k => ?_, fun k => ?_, fun j k => ?_, fun k => ?_, fun j k => ?_, fun k => ?_, fun k => ?_, fun j k => ?_, fun k => ?_, fun j k => ?_⟩
    · refine (pay2_at _ _ _ ρ k).trans ?_
      refine congrArg₂ (· + ·) (Finset.sum_congr rfl fun c _ => congrArg₂ (· * ·) ?_ ?_) (Finset.sum_congr rfl fun c _ => congrArg₂ (· * ·) ?_ ?_)
      · refine ld_at x2 _ _ _ _ _ fun a => ?_
        fin_cases a
        · rfl
        · exact Nat.zero_add _
        · exact Nat.zero_add _
      · exact l2 x5 0 _ _ _ _ _ rfl (Nat.zero_add _)
      · refine ld_at x2 _ _ _ _ _ fun a => ?_
        fin_cases a
        · rfl
        · exact Nat.zero_add _
        · exact Nat.zero_add _
      · exact l2 x5 0 _ _ _ _ _ rfl (Nat.zero_add _)
    · unfold k0_pay3
      pointwise
      exact congrArg (fun z => x4 (ix2 ρ z)) (Fin.ext (by show k.val = 1024 * 0 + k.val; omega))
    · unfold k0_pay4
      pointwise
      rfl
    · exact l2 x6 0 _ _ _ _ _ rfl (Nat.zero_add _)
    · exact l2 x4 1024 _ _ _ _ _ rfl rfl
    · exact l2 x7 0 _ _ _ _ _ rfl (Nat.zero_add _)
    · exact l2 x4 2048 _ _ _ _ _ rfl rfl
    · exact l2 x3 0 _ _ _ _ _ rfl (Nat.zero_add _)
    · exact l2 x8 0 _ _ _ _ _ rfl (Nat.zero_add _)
    · exact l2 x0 0 _ _ _ _ _ rfl (Nat.zero_add _)
    · exact l2 x9 0 _ _ _ _ _ rfl (Nat.zero_add _)
  exact out_of (fun k => mid_at L k) (fun k => scaled_at L k) (fun k => l2 x10 0 _ _ _ _ _ rfl (Nat.zero_add _))
    (fun k j => l2 x11 0 _ _ _ _ _ rfl (Nat.zero_add _)) (fun j n => l2 x12 0 _ _ _ _ _ rfl (Nat.zero_add _)) n

end Cert.Ffn
-- ==== Proof.FfnRef.lean ====
/- What the reference computes for one token. -/
module

public import proofs.«01_k».proof.Proof.FfnRow
public import proofs.«01_k».proof.Proof.Gen.Reference2Ideal.Read

@[expose] public section

set_option maxRecDepth 16384

noncomputable section

namespace Cert.Ffn

open Idealize.ShloMosaic Idealize.SL.Sem Cert.Reference2Ideal Cert.Reference2Ideal.Gen Cert.Reference2Ideal.Read

/-- The angle of entry `(c, k)` of the channel transform. -/
def angle (c k : Fin 128) : EReal :=
  FloatOps.sitofp (F := Ideal) .f32 (IntOp.muli (BitVec.ofNat 32 c.val) (BitVec.ofNat 32 k.val)) * Ideal.ofBits .f32 0x3D490FDB#32

variable (x0 : FVec Ideal S4x4096x1024 .f32) (x1 : FVec Ideal S4x4096x512 .f32) (x2 : FVec Ideal S2x4x4096x512 .f32) (x3 : FVec Ideal S4x4096x512 .f32)
    (x4 : FVec Ideal S4x4096x3x1024 .f32) (x5 x6 x7 : FVec Ideal S512x1024 .f32) (x8 : FVec Ideal S1024x1024 .f32) (x9 : FVec Ideal S1024 .f32)
    (x10 : FVec Ideal S1024x4096 .f32) (x11 : FVec Ideal S4096x1024 .f32)

/-- Token `s` of batch `b`. -/
def argRow (b : Fin 4) (s : Fin 4096) : Row where
  x n := x0 (ix3 b s n)
  ona k := x1 (ix3 b s k)
  yr k := x2 (ix4 (0 : Fin 2) b s k)
  yi k := x2 (ix4 (1 : Fin 2) b s k)
  om k := x3 (ix3 b s k)
  g i n := x4 (ix4 b s i n)
  ct c k := Ideal.div (Ideal.cos (angle c k)) (Ideal.ofBits .f32 0x413504F3#32)
  st c k := Ideal.div (Ideal.sin (angle c k)) (Ideal.ofBits .f32 0x413504F3#32)
  wna k n := x5 (ix2 k n)
  wf k n := x6 (ix2 k n)
  wmo k n := x7 (ix2 k n)
  wout k n := x8 (ix2 k n)
  gain n := x9 (ix1 n)
  w1 k j := x10 (ix2 k j)
  w2 j n := x11 (ix2 j n)

theorem cos_at (c k : Fin 128) : val_main_v14 (F := Ideal) (ix2 c k) = Ideal.div (Ideal.cos (angle c k)) (Ideal.ofBits .f32 0x413504F3#32) := by
  simp only [val_main_v14, val_main_v13, val_main_cst_0, val_main_v12, val_main_v8, val_main_v7, val_main_cst, val_main_v6, val_main_v5, val_main_v4, val_main_v3,
    val_main_v2, val_main_v1, val_main_v0]
  pointwise
  rfl

theorem sin_at (c k : Fin 128) : val_main_v20 (F := Ideal) (ix2 c k) = Ideal.div (Ideal.sin (angle c k)) (Ideal.ofBits .f32 0x413504F3#32) := by
  simp only [val_main_v20, val_main_v19, val_main_cst_1, val_main_v18, val_main_v8, val_main_v7, val_main_cst, val_main_v6, val_main_v5, val_main_v4, val_main_v3,
    val_main_v2, val_main_v1, val_main_v0]
  pointwise
  rfl

theorem mix_ref (b : Fin 4) (s : Fin 4096) (ch : Fin 512) :
    val_main_v24 (F := Ideal) x2 (ix3 b s ch) = (argRow x0 x1 x2 x3 x4 x5 x6 x7 x8 x9 x10 x11 b s).mix ch := by
  simp only [val_main_v24, val_main_v22, val_main_v15, val_main_v21, val_main_v11, val_main_v10, val_main_v17, val_main_v16, val_main_v9]
  pointwise
  simp only [cos_at, sin_at]
  simp only [Nat.mul_comm (ch.val / 128) 128]
  rfl

theorem mid_ref (b : Fin 4) (s : Fin 4096) (n : Fin 1024) :
    val_main_v39 (F := Ideal) x0 x1 x2 x3 x4 x5 x6 x7 x8 (ix3 b s n) = (argRow x0 x1 x2 x3 x4 x5 x6 x7 x8 x9 x10 x11 b s).mid n := by
  simp only [val_main_v39, val_main_v38, val_main_v37, val_main_v36, val_main_v35, val_main_v34, val_main_v33, val_main_v32, val_main_v31, val_main_v30, val_main_v29,
    val_main_v28, val_main_v27, val_main_v26, val_main_v25, val_main_v23]
  have h := mix_ref x0 x1 x2 x3 x4 x5 x6 x7 x8 x9 x10 x11 b s
  generalize val_main_v24 (F := Ideal) x2 = z at *
  pointwise
  simp only [h]
  rfl

theorem out_ref (b : Fin 4) (s : Fin 4096) (n : Fin 1024) :
    val_main_v58 (F := Ideal) x0 x1 x2 x3 x4 x5 x6 x7 x8 x9 x10 x11 (ix3 b s n) = (argRow x0 x1 x2 x3 x4 x5 x6 x7 x8 x9 x10 x11 b s).out n := by
  simp only [val_main_v58, val_main_v57, val_main_v56, val_main_v55, val_main_v54, val_main_cst_5, val_main_v53, val_main_v52, val_main_v51, val_main_v50, val_main_v49,
    val_main_v48, val_main_v47, val_main_v46, val_main_v45, val_main_cst_4, val_main_v44, val_main_v43, val_main_cst_3, val_main_v42, val_main_v41, val_main_cst_2, val_main_v40]
  have h := mid_ref x0 x1 x2 x3 x4 x5 x6 x7 x8 x9 x10 x11 b s
  generalize val_main_v39 (F := Ideal) x0 x1 x2 x3 x4 x5 x6 x7 x8 = z at *
  pointwise
  simp only [h]
  rfl

/-- The reference's result at row `r` of the flattened tokens. -/
theorem result_ref (r : Fin 16384) (n : Fin 1024) :
    val_main_v59 (F := Ideal) x0 x1 x2 x3 x4 x5 x6 x7 x8 x9 x10 x11 (ix2 r n)
      = (argRow x0 x1 x2 x3 x4 x5 x6 x7 x8 x9 x10 x11 (⟨r.val / 4096, by omega⟩ : Fin 4) (⟨r.val % 4096, by omega⟩ : Fin 4096)).out n := by
  rw [← out_ref]
  unfold val_main_v59
  generalize val_main_v58 (F := Ideal) x0 x1 x2 x3 x4 x5 x6 x7 x8 x9 x10 x11 = z
  pointwise

end Cert.Ffn
-- ==== Proof.FfnHost.lean ====
/- What the host hands the output block's kernel, and its windows' blocks. -/
module

public import proofs.«01_k».proof.Proof.FfnBody
public import proofs.«01_k».proof.Proof.FfnRef
public import Idealize.ShloMosaic.Lib.StableHlo.ReadAt

@[expose] public section

set_option maxRecDepth 16384

noncomputable section

namespace Cert.Ffn

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

/-- The arguments. -/
abbrev arg0 : FVec Ideal S4x4096x1024 .f32 := m ((c.tc : Thread nD τ).loc main_arg0)
abbrev arg1 : FVec Ideal S4x4096x512 .f32 := m ((c.tc : Thread nD τ).loc main_arg1)
abbrev arg2 : FVec Ideal S2x4x4096x512 .f32 := m ((c.tc : Thread nD τ).loc main_arg2)
abbrev arg3 : FVec Ideal S4x4096x512 .f32 := m ((c.tc : Thread nD τ).loc main_arg3)
abbrev arg4 : FVec Ideal S4x4096x3x1024 .f32 := m ((c.tc : Thread nD τ).loc main_arg4)
abbrev arg5 : FVec Ideal S512x1024 .f32 := m ((c.tc : Thread nD τ).loc main_arg5)
abbrev arg6 : FVec Ideal S512x1024 .f32 := m ((c.tc : Thread nD τ).loc main_arg6)
abbrev arg7 : FVec Ideal S512x1024 .f32 := m ((c.tc : Thread nD τ).loc main_arg7)
abbrev arg8 : FVec Ideal S1024x1024 .f32 := m ((c.tc : Thread nD τ).loc main_arg8)
abbrev arg9 : FVec Ideal S1024 .f32 := m ((c.tc : Thread nD τ).loc main_arg9)
abbrev arg10 : FVec Ideal S1024x4096 .f32 := m ((c.tc : Thread nD τ).loc main_arg10)
abbrev arg11 : FVec Ideal S4096x1024 .f32 := m ((c.tc : Thread nD τ).loc main_arg11)

/-- Batch and position of row `r` of the flattened tokens. -/
abbrev batchRow (r : Fin 16384) : Fin 4 := ⟨r.val / 4096, by omega⟩
abbrev posRow (r : Fin 16384) : Fin 4096 := ⟨r.val % 4096, by omega⟩

theorem host_x (r : Fin 16384) (n : Fin 1024) : V m c main_v0 (ix2 r n) = arg0 m c (ix3 (batchRow r) (posRow r) n) := by
  dsimp only [V]; after_reads_at
theorem host_ona (r : Fin 16384) (n : Fin 512) : V m c main_v2 (ix2 r n) = arg1 m c (ix3 (batchRow r) (posRow r) n) := by
  dsimp only [V]; after_reads_at
theorem host_y (i : Fin 2) (r : Fin 16384) (n : Fin 512) : V m c main_v4 (ix3 i r n) = arg2 m c (ix4 i (batchRow r) (posRow r) n) := by
  dsimp only [V]; after_reads_at
theorem host_om (r : Fin 16384) (n : Fin 512) : V m c main_v6 (ix2 r n) = arg3 m c (ix3 (batchRow r) (posRow r) n) := by
  dsimp only [V]; after_reads_at
theorem host_g (r : Fin 16384) (n : Fin 3072) : V m c main_v8 (ix2 r n)
    = arg4 m c (ix4 (batchRow r) (posRow r) (⟨n.val / 1024, by omega⟩ : Fin 3) (⟨n.val % 1024, by omega⟩ : Fin 1024)) := by
  dsimp only [V]; after_reads_at
theorem host_ct (i k : Fin 128) : V m c main_v23 (ix2 (⟨i.val, by omega⟩ : Fin 256) k)
    = Ideal.div (Ideal.cos (angle i k)) (Ideal.ofBits .f32 0x413504F3#32) := by
  dsimp only [V]; repeat after_reads_at
  rfl
theorem host_st (i k : Fin 128) : V m c main_v23 (ix2 (⟨128 + i.val, by omega⟩ : Fin 256) k)
    = Ideal.div (Ideal.sin (angle i k)) (Ideal.ofBits .f32 0x413504F3#32) := by
  dsimp only [V]; repeat after_reads_at
  rfl
theorem host_wna (k : Fin 512) (n : Fin 1024) : V m c main_v24 (ix2 k n) = arg5 m c (ix2 k n) := by
  dsimp only [V]; after_reads_at
theorem host_wf (k : Fin 512) (n : Fin 1024) : V m c main_v25 (ix2 k n) = arg6 m c (ix2 k n) := by
  dsimp only [V]; after_reads_at
theorem host_wmo (k : Fin 512) (n : Fin 1024) : V m c main_v26 (ix2 k n) = arg7 m c (ix2 k n) := by
  dsimp only [V]; after_reads_at
theorem host_wout (k : Fin 1024) (n : Fin 1024) : V m c main_v27 (ix2 k n) = arg8 m c (ix2 k n) := by
  dsimp only [V]; after_reads_at
theorem host_gain (n : Fin 1024) : V m c main_v30 (ix2 (0 : Fin 1) n) = arg9 m c (ix1 n) := by
  dsimp only [V]; after_reads_at
theorem host_w1 (k : Fin 1024) (n : Fin 4096) : V m c main_v28 (ix2 k n) = arg10 m c (ix2 k n) := by
  dsimp only [V]; after_reads_at
theorem host_w2 (k : Fin 4096) (n : Fin 1024) : V m c main_v29 (ix2 k n) = arg11 m c (ix2 k n) := by
  dsimp only [V]; after_reads_at

/-- The windows' block indices at every grid point. -/
theorem idx : ∀ t : Fin cfg0.N, win0_0.index t = ![(grid0.coords t 0).val, 0] ∧ win0_1.index t = ![(grid0.coords t 0).val, 0]
    ∧ win0_2.index t = ![0, (grid0.coords t 0).val, 0] ∧ win0_3.index t = ![(grid0.coords t 0).val, 0] ∧ win0_4.index t = ![(grid0.coords t 0).val, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![(grid0.coords t 0).val, 0] :=
  (by decide +kernel : ∀ t : Fin grid0.N, _)

section
variable (t : Fin cfg0.N) (ρ : Fin 512) (r : Fin 16384) (hr : r.val = 512 * (grid0.coords t 0).val + ρ.val)
include hr
theorem read0 (A : S16384x1024.Idx → EReal) (n : Fin 1024) : ((cfg0.win 0).blk t).view.read (Elt Ideal) A (ix2 ρ n) = A (ix2 r n) := by
  blk_ext [idx t, hr]
theorem read1 (A : S16384x512.Idx → EReal) (n : Fin 512) : ((cfg0.win 1).blk t).view.read (Elt Ideal) A (ix2 ρ n) = A (ix2 r n) := by
  blk_ext [idx t, hr]
theorem read2 (A : S2x16384x512.Idx → EReal) (i : Fin 2) (n : Fin 512) : ((cfg0.win 2).blk t).view.read (Elt Ideal) A (ix3 i ρ n) = A (ix3 i r n) := by
  blk_ext [idx t, hr]
theorem read3 (A : S16384x512.Idx → EReal) (n : Fin 512) : ((cfg0.win 3).blk t).view.read (Elt Ideal) A (ix2 ρ n) = A (ix2 r n) := by
  blk_ext [idx t, hr]
theorem read4 (A : S16384x3072.Idx → EReal) (n : Fin 3072) : ((cfg0.win 4).blk t).view.read (Elt Ideal) A (ix2 ρ n) = A (ix2 r n) := by
  blk_ext [idx t, hr]
theorem read13 (A : S16384x1024.Idx → EReal) (n : Fin 1024) : A (((cfg0.win 13).blk t).view.emb (ix2 ρ n)) = A (ix2 r n) := by
  blk_ext [idx t, hr]
end

section
variable (t : Fin cfg0.N)
theorem read5 (A : S256x128.Idx → EReal) (i : Fin 256) (j : Fin 128) : ((cfg0.win 5).blk t).view.read (Elt Ideal) A (ix2 i j) = A (ix2 i j) := by
  blk_ext [idx t]
theorem read6 (A : S512x1024.Idx → EReal) (i : Fin 512) (j : Fin 1024) : ((cfg0.win 6).blk t).view.read (Elt Ideal) A (ix2 i j) = A (ix2 i j) := by
  blk_ext [idx t]
theorem read7 (A : S512x1024.Idx → EReal) (i : Fin 512) (j : Fin 1024) : ((cfg0.win 7).blk t).view.read (Elt Ideal) A (ix2 i j) = A (ix2 i j) := by
  blk_ext [idx t]
theorem read8 (A : S512x1024.Idx → EReal) (i : Fin 512) (j : Fin 1024) : ((cfg0.win 8).blk t).view.read (Elt Ideal) A (ix2 i j) = A (ix2 i j) := by
  blk_ext [idx t]
theorem read9 (A : S1024x1024.Idx → EReal) (i j : Fin 1024) : ((cfg0.win 9).blk t).view.read (Elt Ideal) A (ix2 i j) = A (ix2 i j) := by
  blk_ext [idx t]
theorem read10 (A : S1x1024.Idx → EReal) (i : Fin 1) (j : Fin 1024) : ((cfg0.win 10).blk t).view.read (Elt Ideal) A (ix2 i j) = A (ix2 i j) := by
  blk_ext [idx t]
theorem read11 (A : S1024x4096.Idx → EReal) (i : Fin 1024) (j : Fin 4096) : ((cfg0.win 11).blk t).view.read (Elt Ideal) A (ix2 i j) = A (ix2 i j) := by
  blk_ext [idx t]
theorem read12 (A : S4096x1024.Idx → EReal) (i : Fin 4096) (j : Fin 1024) : ((cfg0.win 12).blk t).view.read (Elt Ideal) A (ix2 i j) = A (ix2 i j) := by
  blk_ext [idx t]
end

theorem covers13 : (cfg0.win 13).Covers := by decide +kernel

/-- The staged token is the arguments' token. -/
theorem row_eq (t : Fin cfg0.N) (ρ : Fin 512) (r : Fin 16384) (hr : r.val = 512 * (grid0.coords t 0).val + ρ.val) :
    blockRow (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) ρ
      = argRow (arg0 m c) (arg1 m c) (arg2 m c) (arg3 m c) (arg4 m c) (arg5 m c) (arg6 m c) (arg7 m c) (arg8 m c) (arg9 m c) (arg10 m c) (arg11 m c)
        (batchRow r) (posRow r) := by
  unfold blockRow argRow
  congr 1
  · exact funext fun n => (read0 t ρ r hr (V m c main_v0) n).trans (host_x m c r n)
  · exact funext fun n => (read1 t ρ r hr (V m c main_v2) n).trans (host_ona m c r n)
  · exact funext fun n => (read2 t ρ r hr (V m c main_v4) 0 n).trans (host_y m c 0 r n)
  · exact funext fun n => (read2 t ρ r hr (V m c main_v4) 1 n).trans (host_y m c 1 r n)
  · exact funext fun n => (read3 t ρ r hr (V m c main_v6) n).trans (host_om m c r n)
  · refine funext fun i => funext fun n => (read4 t ρ r hr (V m c main_v8) _).trans ((host_g m c r _).trans ?_)
    exact congrArg₂ (fun u v => arg4 m c (ix4 (batchRow r) (posRow r) u v)) (Fin.ext (by show (1024 * i.val + n.val) / 1024 = i.val; omega))
      (Fin.ext (by show (1024 * i.val + n.val) % 1024 = n.val; omega))
  · exact funext fun i => funext fun k => (read5 t (V m c main_v23) _ _).trans (host_ct m c i k)
  · exact funext fun i => funext fun k => (read5 t (V m c main_v23) _ _).trans (host_st m c i k)
  · exact funext fun k => funext fun n => (read6 t (V m c main_v24) _ _).trans (host_wna m c k n)
  · exact funext fun k => funext fun n => (read7 t (V m c main_v25) _ _).trans (host_wf m c k n)
  · exact funext fun k => funext fun n => (read8 t (V m c main_v26) _ _).trans (host_wmo m c k n)
  · exact funext fun k => funext fun n => (read9 t (V m c main_v27) _ _).trans (host_wout m c k n)
  · exact funext fun n => (read10 t (V m c main_v30) _ _).trans (host_gain m c n)
  · exact funext fun k => funext fun n => (read11 t (V m c main_v28) _ _).trans (host_w1 m c k n)
  · exact funext fun k => funext fun n => (read12 t (V m c main_v29) _ _).trans (host_w2 m c k n)

/-- The reference's result at this program's arguments. -/
abbrev target : S16384x1024.Idx → EReal := fun i =>
  Cert.Reference2Ideal.Read.val_main_v59 (F := Ideal) (arg0 m c) (arg1 m c) (arg2 m c) (arg3 m c) (arg4 m c) (arg5 m c) (arg6 m c) (arg7 m c) (arg8 m c) (arg9 m c)
    (arg10 m c) (arg11 m c) i

theorem block_target (t : Fin cfg0.N) (ρ : Fin 512) (r : Fin 16384) (hr : r.val = 512 * (grid0.coords t 0).val + ρ.val) (n : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (ix2 ρ n) = target m c (ix2 r n) :=
  (block_at _ _ _ _ _ _ _ _ _ _ _ _ _ ρ n).trans
    ((congrArg (fun D : Row => D.out n) (row_eq m c t ρ r hr)).trans (result_ref _ _ _ _ _ _ _ _ _ _ _ _ r n).symm)

/-- The output array after the run. -/
theorem final : (dats m 0 c).arrAt 13 cfg0.N = target m c := by
  refine (dats m 0 c).arrAt_eq_of_covers 13 _ covers13 fun t hf y => ?_
  have ht : (grid0.coords t 0).val < 32 := (grid0.coords t 0).isLt
  refine Eq.trans (b := out0_13 (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) y) ?_ ?_
  · blk_simp
    rw [after0_13]
  · obtain ⟨ρ, n, rfl⟩ : ∃ (ρ : Fin 512) (n : Fin 1024), y = ix2 ρ n := ⟨y 0, y 1, eq_ix2 y⟩
    exact (block_target m c t ρ ⟨512 * (grid0.coords t 0).val + ρ.val, by omega⟩ rfl n).trans
      (read13 t ρ ⟨512 * (grid0.coords t 0).val + ρ.val, by omega⟩ rfl (target m c) n).symm

end Cert.Ffn
-- ==== Proof.InRow.lean ====
/- The layer's first half for one token: the norm and the projections, the normalised queries and keys, the attention over the memory, the gates. -/
module

public import proofs.«01_k».proof.Proof.Softmax
public import Idealize.ShloMosaic.Lib.Pointwise
public import Idealize.ShloMosaic.Lib.IdealHost

@[expose] public section

noncomputable section

namespace Cert.In

open Idealize.ShloMosaic Cert.Na

/-- The norms' small constant. -/
abbrev eps : EReal := Ideal.ofBits .f32 0x358637BD#32

/-- The factor that brings a vector of square sum `s` and length `n` to root mean square one. -/
def unit (s n : EReal) : EReal := Ideal.rsqrt (Ideal.div s n + eps)

/-- Softmax of the scores `s` applied to the values `v`, divided once at the end. -/
def soft (s v : Fin 256 → EReal) : EReal :=
  Ideal.div (∑ μ, Ideal.exp (s μ - Finset.univ.fold max ⊥ s) * v μ) (∑ μ, Ideal.exp (s μ - Finset.univ.fold max ⊥ s))

/-- One token's data and the weights; `memK` and `memV` are its batch's memory. -/
structure Row where
  /-- the token -/
  x : Fin 1024 → EReal
  /-- the first norm's gain -/
  gain : Fin 1024 → EReal
  /-- the projections, side by side -/
  w : Fin 1024 → Fin 5632 → EReal
  /-- the gates' bias -/
  bias : Fin 3072 → EReal
  /-- the gains of the queries', the keys' and the memory queries' norms -/
  qg : Fin 64 → EReal
  kg : Fin 64 → EReal
  mg : Fin 128 → EReal
  /-- the memory's keys and values, four heads of 128 side by side -/
  memK : Fin 256 → Fin 512 → EReal
  memV : Fin 256 → Fin 512 → EReal

namespace Row

variable (D : Row)

/-- The token after the first norm. -/
def h (n : Fin 1024) : EReal := D.x n * unit (∑ k, D.x k * D.x k) (Ideal.ofBits .f32 0x44800000#32) * D.gain n

/-- Its projections. -/
def z (c : Fin 5632) : EReal := ∑ n, D.h n * D.w n c

/-- Channel `c` of the 512 that begin at `o`. -/
abbrev part (o : Fin 5121) (c : Fin 512) : EReal := D.z ⟨o.val + c.val, by omega⟩

/-- The factor of the head of 64 that holds channel `c`. -/
def unitS (o : Fin 5121) (c : Fin 512) : EReal :=
  unit (∑ d : Fin 64, D.part o ⟨64 * (c.val / 64) + d.val, by omega⟩ * D.part o ⟨64 * (c.val / 64) + d.val, by omega⟩) (Ideal.ofBits .f32 0x42800000#32)

/-- The factor of the head of 128 that holds channel `c`. -/
def unitL (o : Fin 5121) (c : Fin 512) : EReal :=
  unit (∑ d : Fin 128, D.part o ⟨128 * (c.val / 128) + d.val, by omega⟩ * D.part o ⟨128 * (c.val / 128) + d.val, by omega⟩) (Ideal.ofBits .f32 0x43000000#32)

/-- The queries, scaled. -/
def q (c : Fin 512) : EReal := D.part 0 c * D.unitS 0 c * D.qg ⟨c.val % 64, by omega⟩ * Ideal.ofBits .f32 0x3E000000#32

/-- The keys. -/
def k (c : Fin 512) : EReal := D.part 512 c * D.unitS 512 c * D.kg ⟨c.val % 64, by omega⟩

/-- The queries to the memory, not scaled yet. -/
def qm (c : Fin 512) : EReal := D.part 2048 c * D.unitL 2048 c * D.mg ⟨c.val % 128, by omega⟩

/-- The score of memory row `μ` in the head of 128 that holds channel `c`. -/
def score (c : Fin 512) (μ : Fin 256) : EReal :=
  (∑ d : Fin 128, D.qm ⟨128 * (c.val / 128) + d.val, by omega⟩ * D.memK μ ⟨128 * (c.val / 128) + d.val, by omega⟩) * Ideal.ofBits .f32 0x3DB504F3#32

/-- The attention over the memory, divided once at the end. -/
def om (c : Fin 512) : EReal := soft (D.score c) fun μ => D.memV μ c

/-- The gates. -/
def gate (n : Fin 3072) : EReal := Ideal.logistic (D.z ⟨2560 + n.val, by omega⟩ + D.bias n)

end Row

/-! ## Means over a head -/

/-- The mean over the group of `G` that holds `c`, taken as a product with a table of reciprocals. -/
theorem group_mean {G : ℕ} (hG : 0 < G) {a b : EReal} (hb : b = ((G : ℝ) : EReal)) (ha : a = ((1 / (G : ℝ) : ℝ) : EReal)) (c : Fin 512)
    (lt : ∀ d : Fin G, G * (c.val / G) + d.val < 512) (f t : Fin 512 → EReal) (ht : ∀ j, t j = if j.val / G = c.val / G then a else 0) :
    ∑ j, f j * t j = Ideal.div (∑ d : Fin G, f ⟨G * (c.val / G) + d.val, lt d⟩) b := by
  have key : ∀ d : Fin G, (G * (c.val / G) + d.val) / G = c.val / G := fun d => by
    rw [Nat.mul_add_div hG, Nat.div_eq_of_lt d.isLt, add_zero]
  rw [hb, Ideal.div_coe (by positivity), sum_mul_coe _ _ (by positivity), ← ha]
  rw [sum_window (f := fun d : Fin G => (⟨G * (c.val / G) + d.val, lt d⟩ : Fin 512)) (fun d d' h => Fin.ext (by have := congrArg Fin.val h; simpa using this))]
  · exact Finset.sum_congr rfl fun d _ => by rw [ht, if_pos (key d)]
  · intro j hj
    rw [ht, if_neg, mul_zero]
    intro h
    refine hj ⟨j.val % G, Nat.mod_lt _ hG⟩ (Fin.ext ?_)
    show G * (c.val / G) + j.val % G = j.val
    rw [← h]; exact Nat.div_add_mod _ _

theorem w64 : Ideal.ofBits .f32 0x42800000#32 = (((64 : ℕ) : ℝ) : EReal) := by
  simp [Ideal.ofBits, Ideal.ieee, -EReal.coe_mul]; norm_num
theorem w128 : Ideal.ofBits .f32 0x43000000#32 = (((128 : ℕ) : ℝ) : EReal) := by
  simp [Ideal.ofBits, Ideal.ieee, -EReal.coe_mul]; norm_num
theorem v64 : Ideal.ofBits .f32 0x3C800000#32 = ((1 / ((64 : ℕ) : ℝ) : ℝ) : EReal) := by
  simp [Ideal.ofBits, Ideal.ieee, -EReal.coe_mul]; norm_num
theorem v128 : Ideal.ofBits .f32 0x3C000000#32 = ((1 / ((128 : ℕ) : ℝ) : ℝ) : EReal) := by
  simp [Ideal.ofBits, Ideal.ieee, -EReal.coe_mul]; norm_num
theorem eps_eq : eps = ((8796093 / 8796093022208 : ℝ) : EReal) := by
  simp [eps, Ideal.ofBits, Ideal.ieee, -EReal.coe_mul]; norm_num
theorem scale_eq : Ideal.ofBits .f32 0x3DB504F3#32 = ((11863283 / 134217728 : ℝ) : EReal) := by
  simp [Ideal.ofBits, Ideal.ieee, -EReal.coe_mul]; norm_num

/-! ## A normalised number is real, whatever the vector -/

theorem sq_nonneg' (x : EReal) : 0 ≤ x * x := by
  rcases le_total 0 x with h | h
  · exact mul_nonneg h h
  · rw [← neg_mul_neg]; exact mul_nonneg (EReal.neg_nonneg.mpr h) (EReal.neg_nonneg.mpr h)

theorem isReal_unit {G : ℕ} (hG : 0 < G) {b : EReal} (hb : b = ((G : ℝ) : EReal)) (f : Fin G → EReal) (d : Fin G) :
    IsReal (f d * unit (∑ d, f d * f d) b) := by
  obtain ⟨e, he, hee⟩ : ∃ e : ℝ, 0 < e ∧ eps = (e : EReal) := ⟨_, by norm_num, eps_eq⟩
  have hle : f d * f d ≤ ∑ d, f d * f d := Finset.single_le_sum (f := fun d => f d * f d) (fun i _ => sq_nonneg' _) (Finset.mem_univ d)
  have h0 : 0 ≤ ∑ d, f d * f d := Finset.sum_nonneg fun i _ => sq_nonneg' _
  generalize ∑ d, f d * f d = S at *
  unfold unit
  rw [hb, Ideal.div_coe (by positivity), hee]
  induction S using EReal.rec with
  | bot => exact absurd h0 (by simp)
  | top =>
    rw [EReal.top_mul_coe_of_pos (by positivity), EReal.top_add_coe]
    refine ⟨0, ?_⟩
    show f d * 0 = _
    rw [mul_zero]; rfl
  | coe s =>
    have hs : 0 ≤ s := by exact_mod_cast h0
    have hf : IsReal (f d) := by
      generalize f d = y at *
      induction y using EReal.rec with
      | bot => exact absurd hle (by simp)
      | top => exact absurd hle (by simp)
      | coe r => exact ⟨r, rfl⟩
    refine hf.mul ?_
    rw [← EReal.coe_mul, ← EReal.coe_add]
    have hp : 0 < s * (1 / (G : ℝ)) + e := by positivity
    refine ⟨(Real.sqrt (s * (1 / (G : ℝ)) + e))⁻¹, ?_⟩
    show (if _ then _ else _ : EReal) = _
    rw [if_neg hp.not_gt, if_neg hp.ne']

namespace Row

variable (D : Row)

theorem isReal_qm (hg : ∀ c, IsReal (D.mg c)) (c : Fin 512) : IsReal (D.qm c) := by
  refine IsReal.mul ?_ (hg _)
  have h := isReal_unit (by norm_num) w128 (fun d : Fin 128 => D.part 2048 ⟨128 * (c.val / 128) + d.val, by omega⟩) ⟨c.val % 128, by omega⟩
  have e : (⟨128 * (c.val / 128) + c.val % 128, by omega⟩ : Fin 512) = c := Fin.ext (Nat.div_add_mod _ _)
  dsimp only at h
  rw [e] at h
  exact h

theorem isReal_score (hg : ∀ c, IsReal (D.mg c)) (hk : ∀ μ c, IsReal (D.memK μ c)) (c : Fin 512) (μ : Fin 256) : IsReal (D.score c μ) := by
  exact (isReal_sum _ _ fun d _ => (D.isReal_qm hg _).mul (hk _ _)).mul ⟨_, scale_eq⟩

/-- The attention over the memory with every weight divided. -/
theorem om_eq (hg : ∀ c, IsReal (D.mg c)) (hk : ∀ μ c, IsReal (D.memK μ c)) (c : Fin 512) :
    D.om c = ∑ μ, D.memV μ c * Ideal.div (Ideal.exp (D.score c μ - Finset.univ.fold max ⊥ (D.score c)))
      (∑ μ, Ideal.exp (D.score c μ - Finset.univ.fold max ⊥ (D.score c))) :=
  softmax_window (f := id) Function.injective_id (D.score c) (fun μ => D.memV μ c) (fun κ h => absurd rfl (h κ))
    (fun μ => .inr (D.isReal_score hg hk c μ)) ⟨0, D.isReal_score hg hk c 0⟩

end Row

end Cert.In
-- ==== Proof.InBody.lean ====
/- What the projection kernel's body computes from its loads, token by token. -/
module

public import proofs.«01_k».proof.Proof.InRow
public import proofs.«01_k».proof.Proof.Gen.Kernel3Ideal.Value
public import Idealize.ShloMosaic.Lib.Pipeline.ValueKit

@[expose] public section

set_option maxRecDepth 16384

noncomputable section

namespace Cert.In

open Idealize.ShloMosaic Idealize.SL.Sem Cert.Na Cert.Kernel3Ideal Cert.Kernel3Ideal.Gen

variable {D : Row} {ρ : Fin 512}

theorem h_at {v0 : Vec Ideal S512x1024 .f32} {v12 : Vec Ideal S1x1024 .f32} (h0 : ∀ n, v0 (ix2 ρ n) = D.x n) (h1 : ∀ n, v12 (ix2 (0 : Fin 1) n) = D.gain n)
    (n : Fin 1024) : k0_pay3 (F := Ideal) v0 v12 (ix2 ρ n) = D.h n := by
  unfold k0_pay3
  pointwise
  simp only [h0, h1]
  rfl

section
variable {h : FVec Ideal S512x1024 .bf16} (hh : ∀ n, h (ix2 ρ n) = D.h n)
include hh

theorem v_at {w : Vec Ideal S1024x512 .bf16} (hw : ∀ n c, w (ix2 n c) = D.w n (⟨1024 + c.val, by omega⟩ : Fin 5632)) (c : Fin 512) :
    k0_pay11 (F := Ideal) h w (ix2 ρ c) = D.part 1024 c := by
  unfold k0_pay11
  pointwise
  simp only [hh, hw]
  rfl

theorem f_at {w : Vec Ideal S1024x512 .bf16} (hw : ∀ n c, w (ix2 n c) = D.w n (⟨1536 + c.val, by omega⟩ : Fin 5632)) (c : Fin 512) :
    k0_pay12 (F := Ideal) h w (ix2 ρ c) = D.part 1536 c := by
  unfold k0_pay12
  pointwise
  simp only [hh, hw]
  rfl

theorem k_at {w : FVec Ideal S512x1024 .bf16} {t : Vec Ideal S512x512 .bf16} {g : Vec Ideal S512x1 .f32}
    (hw : ∀ c n, w (ix2 c n) = D.w n (⟨512 + c.val, by omega⟩ : Fin 5632))
    (ht : ∀ j c : Fin 512, t (ix2 j c) = if j.val / 64 = c.val / 64 then Ideal.ofBits .f32 0x3C800000#32 else 0)
    (hg : ∀ c, g (ix2 c (0 : Fin 1)) = D.kg ⟨c.val % 64, by omega⟩) (c : Fin 512) :
    k0_pay6 (F := Ideal) h w (constant S512x512 .f32 0x00000000#32) t g (ix2 c ρ) = D.k c := by
  unfold k0_pay6
  pointwise
  have hz : ∀ c : Fin 512, ∑ n, D.w n (⟨512 + c.val, by omega⟩ : Fin 5632) * D.h n = D.part 512 c := fun c => Finset.sum_congr rfl fun n _ => mul_comm _ _
  simp only [hh, hw, hg, hz]
  have e := group_mean (G := 64) (by norm_num) w64 v64 c (fun d => by omega) (fun j => D.part 512 j * D.part 512 j) (fun j => t (ix2 c j))
    (fun j => (ht c j).trans (if_congr eq_comm rfl rfl))
  have e' : ∑ j, t (ix2 c j) * (D.part 512 j * D.part 512 j) = _ := (Finset.sum_congr rfl fun j _ => mul_comm _ _).trans e
  rw [e']
  rfl

theorem qm_at {w : Vec Ideal S1024x512 .bf16} {t : Vec Ideal S512x512 .bf16} {g : Vec Ideal S1x512 .f32}
    (hw : ∀ n c, w (ix2 n c) = D.w n (⟨2048 + c.val, by omega⟩ : Fin 5632))
    (ht : ∀ j c : Fin 512, t (ix2 j c) = if j.val / 128 = c.val / 128 then Ideal.ofBits .f32 0x3C000000#32 else 0)
    (hg : ∀ c, g (ix2 (0 : Fin 1) c) = D.mg ⟨c.val % 128, by omega⟩ * Ideal.ofBits .f32 0x3DB504F3#32) (c : Fin 512) :
    k0_pay13 (F := Ideal) h w t g (ix2 ρ c) = D.qm c * Ideal.ofBits .f32 0x3DB504F3#32 := by
  unfold k0_pay13
  pointwise
  simp only [hh, hw, hg]
  have e := group_mean (G := 128) (by norm_num) w128 v128 c (fun d => by omega) (fun j => D.part 2048 j * D.part 2048 j) (fun j => t (ix2 j c)) (fun j => ht j c)
  change D.part 2048 c * Ideal.rsqrt ((∑ j, D.part 2048 j * D.part 2048 j * t (ix2 j c)) + eps) * _ = _
  rw [e, ← mul_assoc]
  rfl

theorem gate_at {w : Vec Ideal S1024x1024 .bf16} {b : Vec Ideal S1x1024 .f32} (n : Fin 3072) (i : Fin 1024)
    (hw : ∀ k, w (ix2 k i) = D.w k (⟨2560 + n.val, by omega⟩ : Fin 5632)) (hb : b (ix2 (0 : Fin 1) i) = D.bias n) :
    k0_pay1 (F := Ideal) h w b (ix2 ρ i) = D.gate n := by
  unfold k0_pay1
  pointwise
  simp only [hh, hw, hb]
  rfl
end

theorem q_at {v0 : Vec Ideal S512x1024 .f32} {v12 : Vec Ideal S1x1024 .f32} (hh : ∀ n, k0_pay3 (F := Ideal) v0 v12 (ix2 ρ n) = D.h n)
    {w : Vec Ideal S1024x512 .bf16} {t : Vec Ideal S512x512 .bf16} {g : Vec Ideal S1x512 .f32}
    (hw : ∀ n c, w (ix2 n c) = D.w n (⟨0 + c.val, by omega⟩ : Fin 5632))
    (ht : ∀ j c : Fin 512, t (ix2 j c) = if j.val / 64 = c.val / 64 then Ideal.ofBits .f32 0x3C800000#32 else 0)
    (hg : ∀ c, g (ix2 (0 : Fin 1) c) = D.qg ⟨c.val % 64, by omega⟩ * Ideal.ofBits .f32 0x3E000000#32) (c : Fin 512) :
    k0_pay4 (F := Ideal) v0 v12 w t g (ix2 ρ c) = D.q c := by
  unfold k0_pay4
  generalize k0_pay3 (F := Ideal) v0 v12 = h at *
  pointwise
  simp only [hh, hw, hg]
  have e := group_mean (G := 64) (by norm_num) w64 v64 c (fun d => by omega) (fun j => D.part 0 j * D.part 0 j) (fun j => t (ix2 j c)) (fun j => ht j c)
  change D.part 0 c * Ideal.rsqrt ((∑ j, D.part 0 j * D.part 0 j * t (ix2 j c)) + eps) * _ = _
  rw [e, ← mul_assoc]
  rfl

/-! ## The attention over the memory, head by head -/

theorem bot_eq : Ideal.ofBits FTy.f32 4286578688#32 = ⊥ := by simp [Ideal.ofBits, Ideal.ieee]

/-- The head that begins at column `o`: its queries are columns `o` to `o + 127` of `v`. -/
abbrev head (v : FVec Ideal S512x512 .bf16) (ρ : Fin 512) (o : ℕ) (ho : o ≤ 384) (K : Vec Ideal S1x128x256 .bf16) (W : Vec Ideal S1x256x128 .bf16) (p : Fin 128) : EReal :=
  soft (fun μ => ∑ d : Fin 128, v (ix2 ρ (⟨o + d.val, by omega⟩ : Fin 512)) * K (ix3 (0 : Fin 1) d μ)) fun μ => W (ix3 (0 : Fin 1) μ p)

theorem head0_at (h : FVec Ideal S512x1024 .bf16) (w : Vec Ideal S1024x512 .bf16) (t : Vec Ideal S512x512 .bf16) (g : Vec Ideal S1x512 .f32)
    (K : Vec Ideal S1x128x256 .bf16) (W : Vec Ideal S1x256x128 .bf16) (ρ : Fin 512) (p : Fin 128) :
    k0_pay15 (F := Ideal) (k0_pay14 h w t g K) W (ix2 ρ p) = head (k0_pay13 h w t g) ρ 0 (by omega) K W p := by
  unfold k0_pay15 k0_pay14
  generalize k0_pay13 (F := Ideal) h w t g = v
  pointwise
  rw [bot_eq]
  have e : ∀ d : Fin 128, (⟨d.val, by omega⟩ : Fin 512) = ⟨0 + d.val, by omega⟩ := fun d => Fin.ext (Nat.zero_add _).symm
  simp only [e]
  rfl

theorem head1_at (v : FVec Ideal S512x512 .bf16) (K : Vec Ideal S1x128x256 .bf16) (W : Vec Ideal S1x256x128 .bf16) (ρ : Fin 512) (p : Fin 128) :
    k0_pay16 (F := Ideal) v K W (ix2 ρ p) = head v ρ 128 (by omega) K W p := by
  unfold k0_pay16
  pointwise
  rw [bot_eq]
  rfl

theorem exp2_at (v : FVec Ideal S512x512 .bf16) (K : Vec Ideal S1x128x256 .bf16) (ρ : Fin 512) (μ : Fin 256) :
    k0_pay17 (F := Ideal) v K (ix2 ρ μ) = Ideal.exp ((∑ d : Fin 128, v (ix2 ρ (⟨256 + d.val, by omega⟩ : Fin 512)) * K (ix3 (0 : Fin 1) d μ))
      - Finset.univ.fold max ⊥ fun μ => ∑ d : Fin 128, v (ix2 ρ (⟨256 + d.val, by omega⟩ : Fin 512)) * K (ix3 (0 : Fin 1) d μ)) := by
  unfold k0_pay17
  pointwise
  rw [bot_eq]

theorem heads_at (v : FVec Ideal S512x512 .bf16) (A B : FVec Ideal S512x128 .f32) (K2 K3 : Vec Ideal S1x128x256 .bf16) (W2 W3 : Vec Ideal S1x256x128 .bf16)
    (ρ c : Fin 512) :
    k0_pay20 (F := Ideal) v A B (k0_pay18 v K2) (k0_pay19 v K2) W2 K3 W3 (ix2 ρ c)
      = if h0 : c.val < 128 then A (ix2 ρ (⟨c.val, h0⟩ : Fin 128))
        else if h1 : c.val - 128 < 128 then B (ix2 ρ (⟨c.val - 128, h1⟩ : Fin 128))
        else if h2 : c.val - 128 - 128 < 128 then head v ρ 256 (by omega) K2 W2 (⟨c.val - 128 - 128, h2⟩ : Fin 128)
        else head v ρ 384 (by omega) K3 W3 (⟨c.val - 128 - 128 - 128, by omega⟩ : Fin 128) := by
  have he := exp2_at v K2 ρ
  unfold k0_pay20 k0_pay18 k0_pay19
  generalize k0_pay17 (F := Ideal) v K2 = u at *
  pointwise
  simp only [he]
  rw [bot_eq]
  rfl

/-- A head's output is the token's attention over the memory, its queries scaled before the product instead of after it. -/
theorem head_om {v : FVec Ideal S512x512 .bf16} (hv : ∀ c, v (ix2 ρ c) = D.qm c * Ideal.ofBits .f32 0x3DB504F3#32) (o : ℕ) (ho : o ≤ 384)
    {K : Vec Ideal S1x128x256 .bf16} {W : Vec Ideal S1x256x128 .bf16} (p : Fin 128) (c : Fin 512) (hc : c.val = o + p.val) (h128 : o = 128 * (c.val / 128))
    (hK : ∀ d μ, K (ix3 (0 : Fin 1) d μ) = D.memK μ (⟨o + d.val, by omega⟩ : Fin 512))
    (hW : ∀ μ, W (ix3 (0 : Fin 1) μ p) = D.memV μ (⟨o + p.val, by omega⟩ : Fin 512)) : head v ρ o ho K W p = D.om c := by
  have hs : (fun μ => ∑ d : Fin 128, v (ix2 ρ (⟨o + d.val, by omega⟩ : Fin 512)) * K (ix3 (0 : Fin 1) d μ)) = D.score c := by
    funext μ
    unfold Row.score
    rw [scale_eq, sum_mul_coe _ _ (by norm_num)]
    refine Finset.sum_congr rfl fun d _ => ?_
    have e : (⟨o + d.val, by omega⟩ : Fin 512) = ⟨128 * (c.val / 128) + d.val, by omega⟩ := Fin.ext (by show o + d.val = 128 * (c.val / 128) + d.val; omega)
    rw [hv, hK, e, scale_eq, mul_right_comm]
  have hw : (fun μ => W (ix3 (0 : Fin 1) μ p)) = fun μ => D.memV μ c := by
    funext μ
    rw [hW]
    exact congrArg (D.memV μ) (Fin.ext hc.symm)
  show soft _ _ = soft _ _
  rw [hs, hw]

/-! ## The blocks the body leaves -/

/-- What the staged blocks hold, for token `ρ`. -/
structure Loads (D : Row) (ρ : Fin 512) (x0 : Vec Ideal S512x1024 .f32) (x1 : Vec Ideal S1x1024 .f32) (x2 : Vec Ideal S1024x512 .bf16) (x3 : Vec Ideal S512x1024 .bf16)
    (x4 x5 x6 : Vec Ideal S1024x512 .bf16) (x7 : Vec Ideal S1024x3072 .bf16) (x8 : Vec Ideal S1x3072 .f32) (x9 x10 : Vec Ideal S512x512 .bf16)
    (x11 : Vec Ideal S1x512 .f32) (x12 : Vec Ideal S512x1 .f32) (x13 : Vec Ideal S1x512 .f32) (x14 : Vec Ideal S1x512x256 .bf16) (x15 : Vec Ideal S1x256x512 .bf16) :
    Prop where
  h0 : ∀ n, x0 (ix2 ρ n) = D.x n
  h1 : ∀ n, x1 (ix2 (0 : Fin 1) n) = D.gain n
  h2 : ∀ n c, x2 (ix2 n c) = D.w n (⟨0 + c.val, by omega⟩ : Fin 5632)
  h3 : ∀ c n, x3 (ix2 c n) = D.w n (⟨512 + c.val, by omega⟩ : Fin 5632)
  h4 : ∀ n c, x4 (ix2 n c) = D.w n (⟨1024 + c.val, by omega⟩ : Fin 5632)
  h5 : ∀ n c, x5 (ix2 n c) = D.w n (⟨1536 + c.val, by omega⟩ : Fin 5632)
  h6 : ∀ n c, x6 (ix2 n c) = D.w n (⟨2048 + c.val, by omega⟩ : Fin 5632)
  h7 : ∀ n c, x7 (ix2 n c) = D.w n (⟨2560 + c.val, by omega⟩ : Fin 5632)
  h8 : ∀ n, x8 (ix2 (0 : Fin 1) n) = D.bias n
  h9 : ∀ j c : Fin 512, x9 (ix2 j c) = if j.val / 64 = c.val / 64 then Ideal.ofBits .f32 0x3C800000#32 else 0
  h10 : ∀ j c : Fin 512, x10 (ix2 j c) = if j.val / 128 = c.val / 128 then Ideal.ofBits .f32 0x3C000000#32 else 0
  h11 : ∀ c, x11 (ix2 (0 : Fin 1) c) = D.qg ⟨c.val % 64, by omega⟩ * Ideal.ofBits .f32 0x3E000000#32
  h12 : ∀ c, x12 (ix2 c (0 : Fin 1)) = D.kg ⟨c.val % 64, by omega⟩
  h13 : ∀ c, x13 (ix2 (0 : Fin 1) c) = D.mg ⟨c.val % 128, by omega⟩ * Ideal.ofBits .f32 0x3DB504F3#32
  h14 : ∀ c μ, x14 (ix3 (0 : Fin 1) c μ) = D.memK μ c
  h15 : ∀ μ c, x15 (ix3 (0 : Fin 1) μ c) = D.memV μ c

/-- A load at an index is the block there. -/
theorem ld_at {S : Shape} {e : EltTy} {Val : EltTy → Type} (x : S.Idx → Val e) (off size : Fin S.rank → ℕ) (inb : ∀ a, off a + size a ≤ S.size a)
    (y : (Rect.unit off size inb).shape.Idx) (z : S.Idx) (h : ∀ a, off a + (y a).val = (z a).val) :
    View.ld x (Rect.unit off size inb) y = x z := by
  refine congrArg x (funext fun a => Fin.ext ?_)
  show off a + 1 * (y a).val = _
  rw [one_mul]; exact h a

theorem ld2 {a b a' b' : ℕ} {e : EltTy} (x : (⟨2, ![a, b]⟩ : Shape).Idx → Elt Ideal e) (o : ℕ) (inb) (i : Fin a') (j : Fin b') (i' : Fin a) (j' : Fin b)
    (h0 : i.val = i'.val) (h1 : o + j.val = j'.val) :
    View.ld x (Rect.unit (s := ⟨2, ![a, b]⟩) ![0, o] (⟨2, ![a', b']⟩ : Shape).size inb) (ix2 i j) = x (ix2 i' j') := by
  refine ld_at x _ _ _ _ _ fun c => ?_
  fin_cases c
  · exact (Nat.zero_add _).trans h0
  · exact h1

theorem ld3 {a b a' b' : ℕ} {e : EltTy} (x : (⟨3, ![1, a, b]⟩ : Shape).Idx → Elt Ideal e) (o o' : ℕ) (inb) (i : Fin a') (j : Fin b') (i' : Fin a) (j' : Fin b)
    (h0 : o + i.val = i'.val) (h1 : o' + j.val = j'.val) :
    View.ld x (Rect.unit (s := ⟨3, ![1, a, b]⟩) ![0, o, o'] (⟨3, ![1, a', b']⟩ : Shape).size inb) (ix3 (0 : Fin 1) i j) = x (ix3 (0 : Fin 1) i' j') := by
  refine ld_at x _ _ _ _ _ fun c => ?_
  fin_cases c
  · rfl
  · exact h0
  · exact h1

/-- A load of a whole block. -/
theorem ldw {a b : ℕ} {e : EltTy} (x : (⟨2, ![a, b]⟩ : Shape).Idx → Elt Ideal e) (inb) (i : Fin a) (j : Fin b) :
    View.ld x (Rect.unit (s := ⟨2, ![a, b]⟩) ![0, 0] (⟨2, ![a, b]⟩ : Shape).size inb) (ix2 i j) = x (ix2 i j) :=
  ld2 x 0 inb i j i j rfl (Nat.zero_add _)

theorem z2 : (![0, 0] : Fin 2 → ℕ) = fun _ => 0 := by funext a; fin_cases a <;> rfl

section
variable {x0 : Vec Ideal S512x1024 .f32} {x1 : Vec Ideal S1x1024 .f32} {x2 : Vec Ideal S1024x512 .bf16} {x3 : Vec Ideal S512x1024 .bf16}
    {x4 x5 x6 : Vec Ideal S1024x512 .bf16} {x7 : Vec Ideal S1024x3072 .bf16} {x8 : Vec Ideal S1x3072 .f32} {x9 x10 : Vec Ideal S512x512 .bf16}
    {x11 : Vec Ideal S1x512 .f32} {x12 : Vec Ideal S512x1 .f32} {x13 : Vec Ideal S1x512 .f32} {x14 : Vec Ideal S1x512x256 .bf16} {x15 : Vec Ideal S1x256x512 .bf16}
    (L : Loads D ρ x0 x1 x2 x3 x4 x5 x6 x7 x8 x9 x10 x11 x12 x13 x14 x15)
include L

theorem head_h (n : Fin 1024) : k0_pay3 (F := Ideal) (View.ld x0 r0_0) (View.ld x1 r0_1) (ix2 ρ n) = D.h n :=
  h_at (fun n => (ldw x0 _ ρ n).trans (L.h0 n)) (fun n => (ldw x1 _ 0 n).trans (L.h1 n)) n

theorem block_q (c : Fin 512) : out0_16 (F := Ideal) x0 x1 x2 x3 x4 x5 x6 x7 x8 x9 x10 x11 x12 x13 x14 x15 (ix2 ρ c) = D.q c := by
  unfold out0_16
  rw [View.canon_unit_zero z2]
  exact q_at (head_h L) (fun n c => (ldw x2 _ n c).trans (L.h2 n c)) (fun j c => (ldw x9 _ j c).trans (L.h9 j c)) (fun c => (ldw x11 _ 0 c).trans (L.h11 c)) c

theorem block_v (c : Fin 512) : out0_18 (F := Ideal) x0 x1 x2 x3 x4 x5 x6 x7 x8 x9 x10 x11 x12 x13 x14 x15 (ix2 ρ c) = D.part 1024 c := by
  unfold out0_18 k0_pay23
  rw [View.canon_unit_zero z2]
  exact v_at (head_h L) (fun n c => (ldw x4 _ n c).trans (L.h4 n c)) c

theorem block_f (c : Fin 512) : out0_19 (F := Ideal) x0 x1 x2 x3 x4 x5 x6 x7 x8 x9 x10 x11 x12 x13 x14 x15 (ix2 ρ c) = D.part 1536 c := by
  unfold out0_19 k0_pay23
  rw [View.canon_unit_zero z2]
  exact f_at (head_h L) (fun n c => (ldw x5 _ n c).trans (L.h5 n c)) c

theorem block_o (c : Fin 512) : out0_20 (F := Ideal) x0 x1 x2 x3 x4 x5 x6 x7 x8 x9 x10 x11 x12 x13 x14 x15 (ix2 ρ c) = D.om c := by
  unfold out0_20 k0_pay25 k0_pay23
  rw [View.canon_unit_zero z2]
  have hv := qm_at (head_h L) (w := View.ld x6 r0_2) (t := View.ld x10 r0_3) (g := View.ld x13 r0_4) (fun n c => (ldw x6 _ n c).trans (L.h6 n c)) (fun j c => (ldw x10 _ j c).trans (L.h10 j c)) (fun c => (ldw x13 _ 0 c).trans (L.h13 c))
  refine (heads_at _ _ _ _ _ _ _ ρ c).trans ?_
  split_ifs with h0 h1 h2
  · refine (head0_at _ _ _ _ _ _ ρ _).trans (head_om hv 0 _ _ c (by show _ = 0 + c.val; omega) (by omega) (fun d μ => ?_) fun μ => ?_)
    · exact (ld3 x14 0 0 _ d μ _ μ rfl (Nat.zero_add _)).trans (L.h14 _ μ)
    · exact (ld3 x15 0 0 _ μ _ μ _ (Nat.zero_add _) rfl).trans (L.h15 μ _)
  · refine (head1_at _ _ _ ρ _).trans (head_om hv 128 _ _ c (by show _ = 128 + (c.val - 128); omega) (by omega) (fun d μ => ?_) fun μ => ?_)
    · exact (ld3 x14 128 0 _ d μ _ μ rfl (Nat.zero_add _)).trans (L.h14 _ μ)
    · exact (ld3 x15 0 128 _ μ _ μ _ (Nat.zero_add _) rfl).trans (L.h15 μ _)
  · refine head_om hv 256 _ _ c (by show _ = 256 + (c.val - 128 - 128); omega) (by omega) (fun d μ => ?_) fun μ => ?_
    · exact (ld3 x14 256 0 _ d μ _ μ rfl (Nat.zero_add _)).trans (L.h14 _ μ)
    · exact (ld3 x15 0 256 _ μ _ μ _ (Nat.zero_add _) rfl).trans (L.h15 μ _)
  · refine head_om hv 384 _ _ c (by show _ = 384 + (c.val - 128 - 128 - 128); omega) (by omega) (fun d μ => ?_) fun μ => ?_
    · exact (ld3 x14 384 0 _ d μ _ μ rfl (Nat.zero_add _)).trans (L.h14 _ μ)
    · exact (ld3 x15 0 384 _ μ _ μ _ (Nat.zero_add _) rfl).trans (L.h15 μ _)

theorem block_g (n : Fin 3072) : out0_21 (F := Ideal) x0 x1 x2 x3 x4 x5 x6 x7 x8 x9 x10 x11 x12 x13 x14 x15 (ix2 ρ n) = D.gate n := by
  unfold out0_21 k0_pay23
  refine View.canon_eq_of_allAt _ _ _ (cover0_21 _ _ _ _) ?_
  have key : ∀ (o : ℕ) (inb inb' inb'') (w : FVec Ideal S512x1024 .bf16)
      (_ : w = k0_pay1 (k0_pay3 (View.ld x0 r0_0) (View.ld x1 r0_1)) (View.ld x7 (Rect.unit (s := S1024x3072) ![0, o] S1024x1024.size inb))
        (View.ld x8 (Rect.unit (s := S1x3072) ![0, o] S1x1024.size inb'))),
      View.RectAt (Val := Elt Ideal) (e := .bf16) (ix2 ρ n : S512x3072.Idx) (Rect.unit (s := S512x3072) ![0, o] S512x1024.size inb'') w (D.gate n) := by
    rintro o inb inb' inb'' w rfl x hx
    obtain ⟨i, j, rfl⟩ : ∃ (i : Fin 512) (j : Fin 1024), x = ix2 i j := ⟨x 0, x 1, eq_ix2 x⟩
    have e0 : i.val = ρ.val := by
      have := congrArg Fin.val (congrFun hx 0)
      have t : ((Rect.unit (s := S512x3072) ![0, o] S512x1024.size inb'').emb (ix2 i j) 0).val = 0 + 1 * i.val := rfl
      rw [t] at this
      have r : ((ix2 ρ n : S512x3072.Idx) 0).val = ρ.val := rfl
      omega
    have e1 : o + j.val = n.val := by
      have := congrArg Fin.val (congrFun hx 1)
      have t : ((Rect.unit (s := S512x3072) ![0, o] S512x1024.size inb'').emb (ix2 i j) 1).val = o + 1 * j.val := rfl
      rw [t] at this
      have r : ((ix2 ρ n : S512x3072.Idx) 1).val = n.val := rfl
      omega
    obtain rfl : i = ρ := Fin.ext e0
    exact gate_at (head_h L) n j (fun k => (ld2 x7 o _ k j k n rfl e1).trans (L.h7 k n)) ((ld2 x8 o _ 0 j 0 n rfl e1).trans (L.h8 n))
  exact View.allAt_cons _ _ _ (key 2048 _ _ _ _ rfl) (View.allAt_cons _ _ _ (key 1024 _ _ _ _ rfl) (View.allAt_cons _ _ _ (key 0 _ _ _ _ rfl) (View.allAt_nil _ _)))

theorem block_k (a : Fin 4) (j : Fin 128) (hj : 128 * a.val + j.val = ρ.val) (c : Fin 512) : out0_17 (F := Ideal) x0 x1 x2 x3 x4 x5 x6 x7 x8 x9 x10 x11 x12 x13 x14 x15 (ix4 (0 : Fin 1) a c j) = D.k c := by
  unfold out0_17 k0_pay22 k0_pay23 k0_pay24
  refine View.canon_eq_of_allAt _ _ _ (cover0_17 _ _ _ _ _) ?_
  have hk := fun c => k_at (head_h L) (w := k0_pay5 (View.ld x3 r0_0)) (t := View.ld x9 r0_3) (g := View.ld x12 r0_5) (fun c n => ?_) (fun j c => (ldw x9 _ j c).trans (L.h9 j c)) (fun c => (ldw x12 _ c 0).trans (L.h12 c)) c
  swap
  · unfold k0_pay5
    pointwise
    exact L.h3 c n
  generalize hz : k0_pay6 (F := Ideal) _ _ _ _ _ = z at hk
  have key : ∀ (o : ℕ) (ho : o ≤ 3) (inb) (w : FVec Ideal S1x1x512x128 .bf16)
      (_ : ∀ (c : Fin 512) (p : Fin 128), w (ix4 (0 : Fin 1) (0 : Fin 1) c p) = z (ix2 c (⟨128 * o + p.val, by omega⟩ : Fin 512))),
      View.RectAt (Val := Elt Ideal) (e := .bf16) (ix4 (0 : Fin 1) a c j : S1x4x512x128.Idx) (Rect.unit (s := S1x4x512x128) ![0, o, 0, 0] S1x1x512x128.size inb) w (D.k c) := by
    intro o ho inb w hw x hx
    obtain ⟨i, i', c', p, rfl⟩ : ∃ (i i' : Fin 1) (c' : Fin 512) (p : Fin 128), x = ix4 i i' c' p := ⟨x 0, x 1, x 2, x 3, eq_ix4 x⟩
    obtain rfl : i = 0 := Subsingleton.elim _ _
    obtain rfl : i' = 0 := Subsingleton.elim _ _
    have e1 : o + 1 * 0 = a.val := congrArg Fin.val (congrFun hx 1)
    have e2 : 0 + 1 * c'.val = c.val := congrArg Fin.val (congrFun hx 2)
    have e3 : 0 + 1 * p.val = j.val := congrArg Fin.val (congrFun hx 3)
    refine (hw c' p).trans (Eq.trans ?_ (hk c))
    exact congrArg₂ (fun u v => z (ix2 u v)) (Fin.ext (by omega)) (Fin.ext (by show 128 * o + p.val = ρ.val; omega))
  refine View.allAt_cons _ _ _ (key 3 (by omega) _ _ fun c p => ?_) (View.allAt_cons _ _ _ (key 2 (by omega) _ _ fun c p => ?_)
    (View.allAt_cons _ _ _ (key 1 (by omega) _ _ fun c p => ?_) (View.allAt_cons _ _ _ (key 0 (by omega) _ _ fun c p => ?_) (View.allAt_nil _ _))))
  · unfold k0_pay10
    rw [hz]
    pointwise
  · unfold k0_pay9
    rw [hz]
    pointwise
  · unfold k0_pay8
    rw [hz]
    pointwise
  · unfold k0_pay7
    rw [hz]
    pointwise

end

end Cert.In
-- ==== Proof.InRef.lean ====
/- What the reference of the first half computes for one token. -/
module

public import proofs.«01_k».proof.Proof.InRow
public import proofs.«01_k».proof.Proof.Gen.Reference3Ideal.Read

@[expose] public section

set_option maxRecDepth 16384

noncomputable section

namespace Cert.In

open Idealize.ShloMosaic Idealize.SL.Sem Cert.Na Cert.Reference3Ideal Cert.Reference3Ideal.Gen Cert.Reference3Ideal.Read

variable (x0 : FVec Ideal S4x4096x1024 .f32) (x1 : FVec Ideal S1024 .f32) (x2 : FVec Ideal S1024x5632 .f32) (x3 : FVec Ideal S3072 .f32)
    (x4 x5 : FVec Ideal S64 .f32) (x6 : FVec Ideal S128 .f32) (x7 x8 : FVec Ideal S4x256x4x128 .f32)

/-- Token `s` of batch `b`. -/
def argRow (b : Fin 4) (s : Fin 4096) : Row where
  x n := x0 (ix3 b s n)
  gain n := x1 (ix1 n)
  w n c := x2 (ix2 n c)
  bias n := x3 (ix1 n)
  qg d := x4 (ix1 d)
  kg d := x5 (ix1 d)
  mg d := x6 (ix1 d)
  memK μ c := x7 (ix4 b μ (⟨c.val / 128, by omega⟩ : Fin 4) (⟨c.val % 128, by omega⟩ : Fin 128))
  memV μ c := x8 (ix4 b μ (⟨c.val / 128, by omega⟩ : Fin 4) (⟨c.val % 128, by omega⟩ : Fin 128))

theorem z_ref (b : Fin 4) (s : Fin 4096) (c : Fin 5632) : val_main_v13 (F := Ideal) x0 x1 x2 (ix3 b s c) = (argRow x0 x1 x2 x3 x4 x5 x6 x7 x8 b s).z c := by
  simp only [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  pointwise
  rfl

theorem q_ref (b : Fin 4) (s : Fin 4096) (h : Fin 8) (d : Fin 64) :
    val_main_v44 (F := Ideal) x0 x1 x2 x4 (ix4 b s h d) = (argRow x0 x1 x2 x3 x4 x5 x6 x7 x8 b s).q ⟨64 * h.val + d.val, by omega⟩ := by
  simp only [val_main_v44, val_main_v43, val_main_v42, val_main_v41, val_main_v40, val_main_v39, val_main_v38, val_main_v37, val_main_v36, val_main_v35, val_main_v34, val_main_v33, val_main_v32, val_main_v31, val_main_v30, val_main_v29, val_main_cst_4, val_main_cst_5, val_main_cst_6, val_main_cst_7, val_main_v14]
  have hz := z_ref x0 x1 x2 x3 x4 x5 x6 x7 x8 b s
  generalize val_main_v13 (F := Ideal) x0 x1 x2 = z at *
  pointwise
  simp only [hz]
  have e1 : (64 * h.val + d.val) / 64 = h.val := by omega
  have e2 : (64 * h.val + d.val) % 64 = d.val := by omega
  simp only [Row.q, Row.unitS, Row.part, unit, Fin.val_zero, Nat.zero_add, Nat.mul_comm h.val 64, e1, e2]
  rfl

theorem k_ref (b : Fin 4) (s : Fin 4096) (h : Fin 8) (d : Fin 64) :
    val_main_v58 (F := Ideal) x0 x1 x2 x5 (ix4 b s h d) = (argRow x0 x1 x2 x3 x4 x5 x6 x7 x8 b s).k ⟨64 * h.val + d.val, by omega⟩ := by
  simp only [val_main_v58, val_main_v57, val_main_v56, val_main_v55, val_main_v54, val_main_v53, val_main_v52, val_main_v51, val_main_v50, val_main_v49, val_main_v48, val_main_v47, val_main_v46, val_main_v45, val_main_cst_8, val_main_cst_9, val_main_cst_10, val_main_v15]
  have hz := z_ref x0 x1 x2 x3 x4 x5 x6 x7 x8 b s
  generalize val_main_v13 (F := Ideal) x0 x1 x2 = z at *
  pointwise
  simp only [hz]
  have e1 : (64 * h.val + d.val) / 64 = h.val := by omega
  have e2 : (64 * h.val + d.val) % 64 = d.val := by omega
  simp only [Row.k, Row.unitS, Row.part, unit, Nat.mul_comm h.val 64, e1, e2]
  rfl

theorem qm_ref (b : Fin 4) (s : Fin 4096) (h : Fin 4) (d : Fin 128) :
    val_main_v74 (F := Ideal) x0 x1 x2 x6 (ix4 b s h d) = (argRow x0 x1 x2 x3 x4 x5 x6 x7 x8 b s).qm ⟨128 * h.val + d.val, by omega⟩ := by
  simp only [val_main_v74, val_main_v73, val_main_v72, val_main_v71, val_main_v70, val_main_v69, val_main_v68, val_main_v67, val_main_v66, val_main_v65, val_main_v64, val_main_v63, val_main_v62, val_main_v61, val_main_cst_11, val_main_cst_12, val_main_cst_13, val_main_v18]
  have hz := z_ref x0 x1 x2 x3 x4 x5 x6 x7 x8 b s
  generalize val_main_v13 (F := Ideal) x0 x1 x2 = z at *
  pointwise
  simp only [hz]
  have e1 : (128 * h.val + d.val) / 128 = h.val := by omega
  have e2 : (128 * h.val + d.val) % 128 = d.val := by omega
  simp only [Row.qm, Row.unitL, Row.part, unit, Nat.mul_comm h.val 128, e1, e2]
  rfl

theorem score_ref (b : Fin 4) (s : Fin 4096) (h : Fin 4) (d : Fin 128) (μ : Fin 256) :
    val_main_v77 (F := Ideal) x0 x1 x2 x6 x7 (ix4 b h s μ) = (argRow x0 x1 x2 x3 x4 x5 x6 x7 x8 b s).score ⟨128 * h.val + d.val, by omega⟩ μ := by
  simp only [val_main_v77, val_main_v76, val_main_v75, val_main_cst_14]
  have hz := qm_ref x0 x1 x2 x3 x4 x5 x6 x7 x8 b s
  generalize val_main_v74 (F := Ideal) x0 x1 x2 x6 = z at *
  pointwise
  simp only [hz]
  have e1 : (128 * h.val + d.val) / 128 = h.val := by omega
  have e2 : (128 * h.val + d.val) % 128 = d.val := by omega
  simp only [Row.score, e1, e2]
  refine congrArg (· * _) (Finset.sum_congr rfl fun i _ => congrArg (fun u : EReal => (argRow x0 x1 x2 x3 x4 x5 x6 x7 x8 b s).qm ⟨128 * h.val + i.val, by omega⟩ * u) ?_)
  show _ = x7 (ix4 b μ (⟨(128 * h.val + i.val) / 128, _⟩ : Fin 4) (⟨(128 * h.val + i.val) % 128, _⟩ : Fin 128))
  exact congrArg₂ (fun u v => x7 (ix4 b μ u v)) (Fin.ext (by show h.val = (128 * h.val + i.val) / 128; omega)) (Fin.ext (by show i.val = (128 * h.val + i.val) % 128; omega))

theorem o_ref (b : Fin 4) (s : Fin 4096) (h : Fin 4) (d : Fin 128)  (hg : ∀ d, IsReal (x6 d)) (hk : ∀ i, IsReal (x7 i)) :
    val_main_v88 (F := Ideal) x0 x1 x2 x6 x7 x8 (ix4 b s h d) = (argRow x0 x1 x2 x3 x4 x5 x6 x7 x8 b s).om ⟨128 * h.val + d.val, by omega⟩ := by
  rw [Row.om_eq _ (fun c => hg _) fun μ c => hk _]
  simp only [val_main_v88, val_main_v87, val_main_v86, val_main_v85, val_main_v84, val_main_v83, val_main_v82, val_main_v81, val_main_v80, val_main_v79, val_main_v78, val_main_cst_15, val_main_cst_16]
  have hz := score_ref x0 x1 x2 x3 x4 x5 x6 x7 x8 b s h d
  generalize val_main_v77 (F := Ideal) x0 x1 x2 x6 x7 = z at *
  pointwise
  simp only [hz]
  rw [show Ideal.ofBits FTy.f32 4286578688#32 = ⊥ from by simp [Ideal.ofBits, Ideal.ieee]]
  refine Finset.sum_congr rfl fun i _ => congrArg (· * _) ?_
  exact congrArg₂ (fun u v => x8 (ix4 b i u v)) (Fin.ext (by show h.val = (128 * h.val + d.val) / 128; omega)) (Fin.ext (by show d.val = (128 * h.val + d.val) % 128; omega))

theorem gate_ref (b : Fin 4) (s : Fin 4096) (n : Fin 3072) :
    val_main_v28 (F := Ideal) x0 x1 x2 x3 (ix3 b s n) = (argRow x0 x1 x2 x3 x4 x5 x6 x7 x8 b s).gate n := by
  simp only [val_main_v28, val_main_v27, val_main_v26, val_main_v25, val_main_v24, val_main_v23, val_main_v22, val_main_v21, val_main_v20, val_main_v19, val_main_cst_2, val_main_cst_3]
  have hz := z_ref x0 x1 x2 x3 x4 x5 x6 x7 x8 b s
  generalize val_main_v13 (F := Ideal) x0 x1 x2 = z at *
  pointwise
  simp only [hz]
  rfl

/-- Batch and position of row `r` of the flattened tokens. -/
abbrev batchRow (r : Fin 16384) : Fin 4 := ⟨r.val / 4096, by omega⟩
abbrev posRow (r : Fin 16384) : Fin 4096 := ⟨r.val % 4096, by omega⟩

/-! ## The reference's six results, at row `r` of the flattened tokens -/

theorem result_q (r : Fin 16384) (n : Fin 512) : val_main_v90 (F := Ideal) x0 x1 x2 x4 (ix2 r n) = (argRow x0 x1 x2 x3 x4 x5 x6 x7 x8 (batchRow r) (posRow r)).q n := by
  have hz := q_ref x0 x1 x2 x3 x4 x5 x6 x7 x8 (batchRow r) (posRow r)
  simp only [val_main_v90, val_main_v89]
  generalize val_main_v44 (F := Ideal) x0 x1 x2 x4 = z at *
  pointwise
  exact (hz ⟨n.val / 64, by omega⟩ ⟨n.val % 64, by omega⟩).trans (congrArg _ (Fin.ext (Nat.div_add_mod n.val 64)))

theorem result_v (r : Fin 16384) (n : Fin 512) : val_main_v93 (F := Ideal) x0 x1 x2 (ix2 r n) = (argRow x0 x1 x2 x3 x4 x5 x6 x7 x8 (batchRow r) (posRow r)).part 1024 n := by
  have hz := z_ref x0 x1 x2 x3 x4 x5 x6 x7 x8 (batchRow r) (posRow r)
  simp only [val_main_v93, val_main_v92, val_main_v16]
  generalize val_main_v13 (F := Ideal) x0 x1 x2 = z at *
  pointwise
  exact hz _

theorem result_f (r : Fin 16384) (n : Fin 512) : val_main_v95 (F := Ideal) x0 x1 x2 (ix2 r n) = (argRow x0 x1 x2 x3 x4 x5 x6 x7 x8 (batchRow r) (posRow r)).part 1536 n := by
  have hz := z_ref x0 x1 x2 x3 x4 x5 x6 x7 x8 (batchRow r) (posRow r)
  simp only [val_main_v95, val_main_v94, val_main_v17]
  generalize val_main_v13 (F := Ideal) x0 x1 x2 = z at *
  pointwise
  exact hz _

theorem result_o (r : Fin 16384) (n : Fin 512) (hg : ∀ d, IsReal (x6 d)) (hk : ∀ i, IsReal (x7 i)) : val_main_v97 (F := Ideal) x0 x1 x2 x6 x7 x8 (ix2 r n) = (argRow x0 x1 x2 x3 x4 x5 x6 x7 x8 (batchRow r) (posRow r)).om n := by
  have hz := fun h d => o_ref x0 x1 x2 x3 x4 x5 x6 x7 x8 (batchRow r) (posRow r) h d hg hk
  simp only [val_main_v97, val_main_v96]
  generalize val_main_v88 (F := Ideal) x0 x1 x2 x6 x7 x8 = z at *
  pointwise
  exact (hz ⟨n.val / 128, by omega⟩ ⟨n.val % 128, by omega⟩).trans (congrArg _ (Fin.ext (Nat.div_add_mod n.val 128)))

theorem result_g (r : Fin 16384) (n : Fin 3072) : val_main_v99 (F := Ideal) x0 x1 x2 x3 (ix2 r n) = (argRow x0 x1 x2 x3 x4 x5 x6 x7 x8 (batchRow r) (posRow r)).gate n := by
  have hz := gate_ref x0 x1 x2 x3 x4 x5 x6 x7 x8 (batchRow r) (posRow r)
  simp only [val_main_v99, val_main_v98]
  generalize val_main_v28 (F := Ideal) x0 x1 x2 x3 = z at *
  pointwise
  exact hz n

theorem result_k (b : Fin 4) (i : Fin 32) (n : Fin 512) (j : Fin 128) :
    val_main_v91 (F := Ideal) x0 x1 x2 x5 (ix4 b i n j) = (argRow x0 x1 x2 x3 x4 x5 x6 x7 x8 b (⟨128 * i.val + j.val, by omega⟩ : Fin 4096)).k n := by
  have hz := k_ref x0 x1 x2 x3 x4 x5 x6 x7 x8 b (⟨128 * i.val + j.val, by omega⟩ : Fin 4096)
  simp only [val_main_v91, val_main_v60, val_main_v59]
  generalize val_main_v58 (F := Ideal) x0 x1 x2 x5 = z at *
  pointwise
  simp only [Nat.mul_comm i.val 128]
  exact (hz ⟨n.val / 64, by omega⟩ ⟨n.val % 64, by omega⟩).trans (congrArg _ (Fin.ext (Nat.div_add_mod n.val 64)))

end Cert.In
-- ==== Proof.InHost.lean ====
/- What the host hands the projection kernel, its windows' blocks, and the arrays it leaves. -/
module

public import proofs.«01_k».proof.Proof.InBody
public import proofs.«01_k».proof.Proof.InRef
public import Idealize.ShloMosaic.Lib.StableHlo.ReadAt

@[expose] public section

set_option maxRecDepth 16384

noncomputable section

namespace Cert.In

open Idealize.ShloMosaic Idealize.ShloMosaic.TcCoe Idealize.SL.Sem Cert.Na Cert.Kernel3Ideal Cert.Kernel3Ideal.Gen
open Idealize.ShloMosaic.Pipeline (Dat)

variable (m : (ℓ : Loc nD τ sig) → Buf (Elt Ideal) ℓ) (c : Dev nD)

/-- The arguments. -/
abbrev arg0 : FVec Ideal S4x4096x1024 .f32 := m ((c.tc : Thread nD τ).loc main_arg0)
abbrev arg1 : FVec Ideal S1024 .f32 := m ((c.tc : Thread nD τ).loc main_arg1)
abbrev arg2 : FVec Ideal S1024x5632 .f32 := m ((c.tc : Thread nD τ).loc main_arg2)
abbrev arg3 : FVec Ideal S3072 .f32 := m ((c.tc : Thread nD τ).loc main_arg3)
abbrev arg4 : FVec Ideal S64 .f32 := m ((c.tc : Thread nD τ).loc main_arg4)
abbrev arg5 : FVec Ideal S64 .f32 := m ((c.tc : Thread nD τ).loc main_arg5)
abbrev arg6 : FVec Ideal S128 .f32 := m ((c.tc : Thread nD τ).loc main_arg6)
abbrev arg7 : FVec Ideal S4x256x4x128 .f32 := m ((c.tc : Thread nD τ).loc main_arg7)
abbrev arg8 : FVec Ideal S4x256x4x128 .f32 := m ((c.tc : Thread nD τ).loc main_arg8)

/-! ## What the host prepares -/

theorem select_eq (a b : ℕ) (ha : a < 2 ^ 32) (hb : b < 2 ^ 32) (x y : EReal) :
    Scalar.select (IntOp.cmpi CmpIPredicate.eq (BitVec.ofNat 32 a) (BitVec.ofNat 32 b)) x y = if a = b then x else y := by
  have h : (BitVec.ofNat 32 a = BitVec.ofNat 32 b) ↔ a = b := by
    refine ⟨fun h => ?_, fun h => by rw [h]⟩
    have := congrArg BitVec.toNat h
    rwa [BitVec.toNat_ofNat, BitVec.toNat_ofNat, Nat.mod_eq_of_lt ha, Nat.mod_eq_of_lt hb] at this
  by_cases e : a = b
  · subst e; simp [Scalar.select, IntOp.cmpi]
  · have e2 : (BitVec.ofNat 32 a == BitVec.ofNat 32 b) = false := beq_eq_false_iff_ne.mpr fun q => e (h.mp q)
    simp [Scalar.select, IntOp.cmpi, e, e2]

theorem host_x (r : Fin 16384) (n : Fin 1024) : V m c main_v5 (ix2 r n) = arg0 m c (ix3 (batchRow r) (posRow r) n) := by
  dsimp only [V]; repeat after_reads_at
theorem host_gain (n : Fin 1024) : V m c main_v42 (ix2 (0 : Fin 1) n) = arg1 m c (ix1 n) := by
  dsimp only [V]; repeat after_reads_at
theorem host_wq (n : Fin 1024) (k : Fin 512) : V m c main_v19 (ix2 n k) = arg2 m c (ix2 n (⟨0 + k.val, by omega⟩ : Fin 5632)) := by
  dsimp only [V]; repeat after_reads_at
theorem host_wk (k : Fin 512) (n : Fin 1024) : V m c main_v21 (ix2 k n) = arg2 m c (ix2 n (⟨512 + k.val, by omega⟩ : Fin 5632)) := by
  dsimp only [V]; repeat after_reads_at
theorem host_wv (n : Fin 1024) (k : Fin 512) : V m c main_v22 (ix2 n k) = arg2 m c (ix2 n (⟨1024 + k.val, by omega⟩ : Fin 5632)) := by
  dsimp only [V]; repeat after_reads_at
theorem host_wf (n : Fin 1024) (k : Fin 512) : V m c main_v23 (ix2 n k) = arg2 m c (ix2 n (⟨1536 + k.val, by omega⟩ : Fin 5632)) := by
  dsimp only [V]; repeat after_reads_at
theorem host_wm (n : Fin 1024) (k : Fin 512) : V m c main_v24 (ix2 n k) = arg2 m c (ix2 n (⟨2048 + k.val, by omega⟩ : Fin 5632)) := by
  dsimp only [V]; repeat after_reads_at
theorem host_wg (n : Fin 1024) (k : Fin 3072) : V m c main_v25 (ix2 n k) = arg2 m c (ix2 n (⟨2560 + k.val, by omega⟩ : Fin 5632)) := by
  dsimp only [V]; repeat after_reads_at
theorem host_bias (n : Fin 3072) : V m c main_v43 (ix2 (0 : Fin 1) n) = arg3 m c (ix1 n) := by
  dsimp only [V]; repeat after_reads_at
theorem host_t64 (j k : Fin 512) : V m c main_v11 (ix2 j k) = if j.val / 64 = k.val / 64 then Ideal.ofBits .f32 0x3C800000#32 else 0 := by
  dsimp only [V]; repeat after_reads_at
  exact select_eq _ _ (by omega) (by omega) _ _
theorem host_t128 (j k : Fin 512) : V m c main_v17 (ix2 j k) = if j.val / 128 = k.val / 128 then Ideal.ofBits .f32 0x3C000000#32 else 0 := by
  dsimp only [V]; repeat after_reads_at
  exact select_eq _ _ (by omega) (by omega) _ _
theorem host_qg (k : Fin 512) : V m c main_v31 (ix2 (0 : Fin 1) k) = arg4 m c (ix1 (⟨k.val % 64, by omega⟩ : Fin 64)) * Ideal.ofBits .f32 0x3E000000#32 := by
  dsimp only [V]; repeat after_reads_at
theorem host_kg (k : Fin 512) : V m c main_v35 (ix2 k (0 : Fin 1)) = arg5 m c (ix1 (⟨k.val % 64, by omega⟩ : Fin 64)) := by
  dsimp only [V]; repeat after_reads_at
theorem host_mg (k : Fin 512) : V m c main_v41 (ix2 (0 : Fin 1) k) = arg6 m c (ix1 (⟨k.val % 128, by omega⟩ : Fin 128)) * Ideal.ofBits .f32 0x3DB504F3#32 := by
  dsimp only [V]; repeat after_reads_at
theorem host_mk (b : Fin 4) (k : Fin 512) (μ : Fin 256) : V m c main_v2 (ix3 b k μ)
    = arg7 m c (ix4 b μ (⟨k.val / 128, by omega⟩ : Fin 4) (⟨k.val % 128, by omega⟩ : Fin 128)) := by
  dsimp only [V]; repeat after_reads_at
theorem host_mv (b : Fin 4) (k : Fin 512) (μ : Fin 256) : V m c main_v4 (ix3 b μ k)
    = arg8 m c (ix4 b μ (⟨k.val / 128, by omega⟩ : Fin 4) (⟨k.val % 128, by omega⟩ : Fin 128)) := by
  dsimp only [V]; repeat after_reads_at

/-! ## The blocks -/

/-- The windows' block indices at every grid point. -/
theorem idx : ∀ t : Fin cfg0.N, win0_0.index t = ![(grid0.coords t 0).val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![(grid0.coords t 0).val / 8, 0, 0]
    ∧ win0_15.index t = ![(grid0.coords t 0).val / 8, 0, 0]
    ∧ win0_16.index t = ![(grid0.coords t 0).val, 0]
    ∧ win0_17.index t = ![(grid0.coords t 0).val / 8, (grid0.coords t 0).val % 8, 0, 0]
    ∧ win0_18.index t = ![(grid0.coords t 0).val, 0]
    ∧ win0_19.index t = ![(grid0.coords t 0).val, 0]
    ∧ win0_20.index t = ![(grid0.coords t 0).val, 0]
    ∧ win0_21.index t = ![(grid0.coords t 0).val, 0] :=
  (by decide +kernel : ∀ t : Fin grid0.N, _)

section
variable (t : Fin cfg0.N) (ρ : Fin 512) (r : Fin 16384) (hr : r.val = 512 * (grid0.coords t 0).val + ρ.val)
include hr
theorem read0 (A : S16384x1024.Idx → EReal) (n : Fin 1024) : ((cfg0.win 0).blk t).view.read (Elt Ideal) A (ix2 ρ n) = A (ix2 r n) := by
  blk_ext [idx t, hr]
theorem read14 (A : S4x512x256.Idx → EReal) (i : Fin 512) (j : Fin 256) : ((cfg0.win 14).blk t).view.read (Elt Ideal) A (ix3 (0 : Fin 1) i j) = A (ix3 (batchRow r) i j) := by
  blk_ext [idx t, hr]
theorem read15 (A : S4x256x512.Idx → EReal) (i : Fin 256) (j : Fin 512) : ((cfg0.win 15).blk t).view.read (Elt Ideal) A (ix3 (0 : Fin 1) i j) = A (ix3 (batchRow r) i j) := by
  blk_ext [idx t, hr]
theorem read16 (A : S16384x512.Idx → EReal) (n : Fin 512) : A (((cfg0.win 16).blk t).view.emb (ix2 ρ n)) = A (ix2 r n) := by
  blk_ext [idx t, hr]
theorem read18 (A : S16384x512.Idx → EReal) (n : Fin 512) : A (((cfg0.win 18).blk t).view.emb (ix2 ρ n)) = A (ix2 r n) := by
  blk_ext [idx t, hr]
theorem read19 (A : S16384x512.Idx → EReal) (n : Fin 512) : A (((cfg0.win 19).blk t).view.emb (ix2 ρ n)) = A (ix2 r n) := by
  blk_ext [idx t, hr]
theorem read20 (A : S16384x512.Idx → EReal) (n : Fin 512) : A (((cfg0.win 20).blk t).view.emb (ix2 ρ n)) = A (ix2 r n) := by
  blk_ext [idx t, hr]
theorem read21 (A : S16384x3072.Idx → EReal) (n : Fin 3072) : A (((cfg0.win 21).blk t).view.emb (ix2 ρ n)) = A (ix2 r n) := by
  blk_ext [idx t, hr]
theorem read17 (A : S4x32x512x128.Idx → EReal) (a : Fin 4) (n : Fin 512) (j : Fin 128) : A (((cfg0.win 17).blk t).view.emb (ix4 (0 : Fin 1) a n j))
    = A (ix4 (batchRow r) (⟨4 * ((grid0.coords t 0).val % 8) + a.val, by omega⟩ : Fin 32) n j) := by
  blk_ext [idx t, hr]
end

section
variable (t : Fin cfg0.N)
theorem read1 (A : S1x1024.Idx → EReal) (i : Fin 1) (j : Fin 1024) : ((cfg0.win 1).blk t).view.read (Elt Ideal) A (ix2 i j) = A (ix2 i j) := by
  blk_ext [idx t]
theorem read2 (A : S1024x512.Idx → EReal) (i : Fin 1024) (j : Fin 512) : ((cfg0.win 2).blk t).view.read (Elt Ideal) A (ix2 i j) = A (ix2 i j) := by
  blk_ext [idx t]
theorem read3 (A : S512x1024.Idx → EReal) (i : Fin 512) (j : Fin 1024) : ((cfg0.win 3).blk t).view.read (Elt Ideal) A (ix2 i j) = A (ix2 i j) := by
  blk_ext [idx t]
theorem read4 (A : S1024x512.Idx → EReal) (i : Fin 1024) (j : Fin 512) : ((cfg0.win 4).blk t).view.read (Elt Ideal) A (ix2 i j) = A (ix2 i j) := by
  blk_ext [idx t]
theorem read5 (A : S1024x512.Idx → EReal) (i : Fin 1024) (j : Fin 512) : ((cfg0.win 5).blk t).view.read (Elt Ideal) A (ix2 i j) = A (ix2 i j) := by
  blk_ext [idx t]
theorem read6 (A : S1024x512.Idx → EReal) (i : Fin 1024) (j : Fin 512) : ((cfg0.win 6).blk t).view.read (Elt Ideal) A (ix2 i j) = A (ix2 i j) := by
  blk_ext [idx t]
theorem read7 (A : S1024x3072.Idx → EReal) (i : Fin 1024) (j : Fin 3072) : ((cfg0.win 7).blk t).view.read (Elt Ideal) A (ix2 i j) = A (ix2 i j) := by
  blk_ext [idx t]
theorem read8 (A : S1x3072.Idx → EReal) (i : Fin 1) (j : Fin 3072) : ((cfg0.win 8).blk t).view.read (Elt Ideal) A (ix2 i j) = A (ix2 i j) := by
  blk_ext [idx t]
theorem read9 (A : S512x512.Idx → EReal) (i : Fin 512) (j : Fin 512) : ((cfg0.win 9).blk t).view.read (Elt Ideal) A (ix2 i j) = A (ix2 i j) := by
  blk_ext [idx t]
theorem read10 (A : S512x512.Idx → EReal) (i : Fin 512) (j : Fin 512) : ((cfg0.win 10).blk t).view.read (Elt Ideal) A (ix2 i j) = A (ix2 i j) := by
  blk_ext [idx t]
theorem read11 (A : S1x512.Idx → EReal) (i : Fin 1) (j : Fin 512) : ((cfg0.win 11).blk t).view.read (Elt Ideal) A (ix2 i j) = A (ix2 i j) := by
  blk_ext [idx t]
theorem read12 (A : S512x1.Idx → EReal) (i : Fin 512) (j : Fin 1) : ((cfg0.win 12).blk t).view.read (Elt Ideal) A (ix2 i j) = A (ix2 i j) := by
  blk_ext [idx t]
theorem read13 (A : S1x512.Idx → EReal) (i : Fin 1) (j : Fin 512) : ((cfg0.win 13).blk t).view.read (Elt Ideal) A (ix2 i j) = A (ix2 i j) := by
  blk_ext [idx t]
end

theorem covers16 : (cfg0.win 16).Covers := by decide +kernel
theorem covers17 : (cfg0.win 17).Covers := by decide +kernel
theorem covers18 : (cfg0.win 18).Covers := by decide +kernel
theorem covers19 : (cfg0.win 19).Covers := by decide +kernel
theorem covers20 : (cfg0.win 20).Covers := by decide +kernel
theorem covers21 : (cfg0.win 21).Covers := by decide +kernel

/-- Token `r` of the arguments. -/
abbrev tok (r : Fin 16384) : Row :=
  argRow (arg0 m c) (arg1 m c) (arg2 m c) (arg3 m c) (arg4 m c) (arg5 m c) (arg6 m c) (arg7 m c) (arg8 m c) (batchRow r) (posRow r)

/-- The staged blocks hold the arguments' token. -/
theorem loads (t : Fin cfg0.N) (ρ : Fin 512) (r : Fin 16384) (hr : r.val = 512 * (grid0.coords t 0).val + ρ.val) :
    Loads (tok m c r) ρ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  h0 n := (read0 t ρ r hr (V m c main_v5) n).trans (host_x m c r n)
  h1 n := (read1 t (V m c main_v42) 0 n).trans (host_gain m c n)
  h2 n k := (read2 t (V m c main_v19) n k).trans (host_wq m c n k)
  h3 k n := (read3 t (V m c main_v21) k n).trans (host_wk m c k n)
  h4 n k := (read4 t (V m c main_v22) n k).trans (host_wv m c n k)
  h5 n k := (read5 t (V m c main_v23) n k).trans (host_wf m c n k)
  h6 n k := (read6 t (V m c main_v24) n k).trans (host_wm m c n k)
  h7 n k := (read7 t (V m c main_v25) n k).trans (host_wg m c n k)
  h8 n := (read8 t (V m c main_v43) 0 n).trans (host_bias m c n)
  h9 j k := (read9 t (V m c main_v11) j k).trans (host_t64 m c j k)
  h10 j k := (read10 t (V m c main_v17) j k).trans (host_t128 m c j k)
  h11 k := (read11 t (V m c main_v31) 0 k).trans (host_qg m c k)
  h12 k := (read12 t (V m c main_v35) k 0).trans (host_kg m c k)
  h13 k := (read13 t (V m c main_v41) 0 k).trans (host_mg m c k)
  h14 k μ := (read14 t ρ r hr (V m c main_v2) k μ).trans (host_mk m c _ k μ)
  h15 μ k := (read15 t ρ r hr (V m c main_v4) μ k).trans (host_mv m c _ k μ)

/-! ## The output arrays after the run are the reference's results at this program's arguments -/

abbrev target_q : S16384x512.Idx → EReal := fun i => Cert.Reference3Ideal.Read.val_main_v90 (F := Ideal) (arg0 m c) (arg1 m c) (arg2 m c) (arg4 m c) i
abbrev target_k : S4x32x512x128.Idx → EReal := fun i => Cert.Reference3Ideal.Read.val_main_v91 (F := Ideal) (arg0 m c) (arg1 m c) (arg2 m c) (arg5 m c) i
abbrev target_v : S16384x512.Idx → EReal := fun i => Cert.Reference3Ideal.Read.val_main_v93 (F := Ideal) (arg0 m c) (arg1 m c) (arg2 m c) i
abbrev target_f : S16384x512.Idx → EReal := fun i => Cert.Reference3Ideal.Read.val_main_v95 (F := Ideal) (arg0 m c) (arg1 m c) (arg2 m c) i
abbrev target_o : S16384x512.Idx → EReal := fun i => Cert.Reference3Ideal.Read.val_main_v97 (F := Ideal) (arg0 m c) (arg1 m c) (arg2 m c) (arg6 m c) (arg7 m c) (arg8 m c) i
abbrev target_g : S16384x3072.Idx → EReal := fun i => Cert.Reference3Ideal.Read.val_main_v99 (F := Ideal) (arg0 m c) (arg1 m c) (arg2 m c) (arg3 m c) i

theorem final_q : (dats m 0 c).arrAt 16 cfg0.N = target_q m c := by
  refine (dats m 0 c).arrAt_eq_of_covers 16 _ covers16 fun t hf y => ?_
  have ht : (grid0.coords t 0).val < 32 := (grid0.coords t 0).isLt
  refine Eq.trans (b := out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) ?_ ?_
  · blk_simp
    rw [after0_16]
  · obtain ⟨ρ, n, rfl⟩ : ∃ (ρ : Fin 512) (n : Fin 512), y = ix2 ρ n := ⟨y 0, y 1, eq_ix2 y⟩
    have L := loads m c t ρ ⟨512 * (grid0.coords t 0).val + ρ.val, by omega⟩ rfl
    exact (block_q L n).trans ((result_q (arg0 m c) (arg1 m c) (arg2 m c) (arg3 m c) (arg4 m c) (arg5 m c) (arg6 m c) (arg7 m c) (arg8 m c) _ n).symm.trans (read16 t ρ ⟨512 * (grid0.coords t 0).val + ρ.val, by omega⟩ rfl (target_q m c) n).symm)

theorem final_v : (dats m 0 c).arrAt 18 cfg0.N = target_v m c := by
  refine (dats m 0 c).arrAt_eq_of_covers 18 _ covers18 fun t hf y => ?_
  have ht : (grid0.coords t 0).val < 32 := (grid0.coords t 0).isLt
  refine Eq.trans (b := out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) ?_ ?_
  · blk_simp
    rw [after0_18]
  · obtain ⟨ρ, n, rfl⟩ : ∃ (ρ : Fin 512) (n : Fin 512), y = ix2 ρ n := ⟨y 0, y 1, eq_ix2 y⟩
    have L := loads m c t ρ ⟨512 * (grid0.coords t 0).val + ρ.val, by omega⟩ rfl
    exact (block_v L n).trans ((result_v (arg0 m c) (arg1 m c) (arg2 m c) (arg3 m c) (arg4 m c) (arg5 m c) (arg6 m c) (arg7 m c) (arg8 m c) _ n).symm.trans (read18 t ρ ⟨512 * (grid0.coords t 0).val + ρ.val, by omega⟩ rfl (target_v m c) n).symm)

theorem final_f : (dats m 0 c).arrAt 19 cfg0.N = target_f m c := by
  refine (dats m 0 c).arrAt_eq_of_covers 19 _ covers19 fun t hf y => ?_
  have ht : (grid0.coords t 0).val < 32 := (grid0.coords t 0).isLt
  refine Eq.trans (b := out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) ?_ ?_
  · blk_simp
    rw [after0_19]
  · obtain ⟨ρ, n, rfl⟩ : ∃ (ρ : Fin 512) (n : Fin 512), y = ix2 ρ n := ⟨y 0, y 1, eq_ix2 y⟩
    have L := loads m c t ρ ⟨512 * (grid0.coords t 0).val + ρ.val, by omega⟩ rfl
    exact (block_f L n).trans ((result_f (arg0 m c) (arg1 m c) (arg2 m c) (arg3 m c) (arg4 m c) (arg5 m c) (arg6 m c) (arg7 m c) (arg8 m c) _ n).symm.trans (read19 t ρ ⟨512 * (grid0.coords t 0).val + ρ.val, by omega⟩ rfl (target_f m c) n).symm)

theorem final_o (hg : ∀ d, IsReal (arg6 m c d)) (hk : ∀ i, IsReal (arg7 m c i)) : (dats m 0 c).arrAt 20 cfg0.N = target_o m c := by
  refine (dats m 0 c).arrAt_eq_of_covers 20 _ covers20 fun t hf y => ?_
  have ht : (grid0.coords t 0).val < 32 := (grid0.coords t 0).isLt
  refine Eq.trans (b := out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) ?_ ?_
  · blk_simp
    rw [after0_20]
  · obtain ⟨ρ, n, rfl⟩ : ∃ (ρ : Fin 512) (n : Fin 512), y = ix2 ρ n := ⟨y 0, y 1, eq_ix2 y⟩
    have L := loads m c t ρ ⟨512 * (grid0.coords t 0).val + ρ.val, by omega⟩ rfl
    exact (block_o L n).trans ((result_o (arg0 m c) (arg1 m c) (arg2 m c) (arg3 m c) (arg4 m c) (arg5 m c) (arg6 m c) (arg7 m c) (arg8 m c) _ n hg hk).symm.trans (read20 t ρ ⟨512 * (grid0.coords t 0).val + ρ.val, by omega⟩ rfl (target_o m c) n).symm)

theorem final_g : (dats m 0 c).arrAt 21 cfg0.N = target_g m c := by
  refine (dats m 0 c).arrAt_eq_of_covers 21 _ covers21 fun t hf y => ?_
  have ht : (grid0.coords t 0).val < 32 := (grid0.coords t 0).isLt
  refine Eq.trans (b := out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) ?_ ?_
  · blk_simp
    rw [after0_21]
  · obtain ⟨ρ, n, rfl⟩ : ∃ (ρ : Fin 512) (n : Fin 3072), y = ix2 ρ n := ⟨y 0, y 1, eq_ix2 y⟩
    have L := loads m c t ρ ⟨512 * (grid0.coords t 0).val + ρ.val, by omega⟩ rfl
    exact (block_g L n).trans ((result_g (arg0 m c) (arg1 m c) (arg2 m c) (arg3 m c) (arg4 m c) (arg5 m c) (arg6 m c) (arg7 m c) (arg8 m c) _ n).symm.trans (read21 t ρ ⟨512 * (grid0.coords t 0).val + ρ.val, by omega⟩ rfl (target_g m c) n).symm)

theorem final_k : (dats m 0 c).arrAt 17 cfg0.N = target_k m c := by
  refine (dats m 0 c).arrAt_eq_of_covers 17 _ covers17 fun t hf y => ?_
  have ht : (grid0.coords t 0).val < 32 := (grid0.coords t 0).isLt
  refine Eq.trans (b := out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y) ?_ ?_
  · blk_simp
    rw [after0_17]
  · obtain ⟨z, a, n, j, rfl⟩ : ∃ (z : Fin 1) (a : Fin 4) (n : Fin 512) (j : Fin 128), y = ix4 z a n j := ⟨y 0, y 1, y 2, y 3, eq_ix4 y⟩
    obtain rfl : z = 0 := Subsingleton.elim _ _
    have L := loads m c t (⟨128 * a.val + j.val, by omega⟩ : Fin 512) ⟨512 * (grid0.coords t 0).val + (128 * a.val + j.val), by omega⟩ rfl
    refine (block_k L a j rfl n).trans (Eq.trans ?_ (read17 t (⟨128 * a.val + j.val, by omega⟩ : Fin 512) ⟨512 * (grid0.coords t 0).val + (128 * a.val + j.val), by omega⟩ rfl
      (target_k m c) a n j).symm)
    refine Eq.trans ?_ (result_k (arg0 m c) (arg1 m c) (arg2 m c) (arg3 m c) (arg4 m c) (arg5 m c) (arg6 m c) (arg7 m c) (arg8 m c) _ _ n j).symm
    refine congrArg (fun s => (argRow (arg0 m c) (arg1 m c) (arg2 m c) (arg3 m c) (arg4 m c) (arg5 m c) (arg6 m c) (arg7 m c) (arg8 m c) _ s).k n) (Fin.ext ?_)
    show (512 * (grid0.coords t 0).val + (128 * a.val + j.val)) % 4096 = 128 * (4 * ((grid0.coords t 0).val % 8) + a.val) + j.val
    omega

end Cert.In
-- ==== Proof.InResult.lean ====
/- The projections' arrays after the run, the memory keys and their query gain finite. -/
module

public import proofs.«01_k».proof.Defs
public import proofs.«01_k».proof.Proof.Gen.Pre_finite3
public import proofs.«01_k».proof.Proof.Finite
public import proofs.«01_k».proof.Proof.InHost

@[expose] public section

noncomputable section

namespace Cert.In

open Idealize.ShloMosaic Idealize.SL.Sem Cert.Na Cert.Kernel3Ideal Cert.Kernel3Ideal.Gen

variable {m : (ℓ : Loc nD τ sig) → Buf (Elt Ideal) ℓ} (h : Cert.Pre_Kernel3Ideal_finite3 m) (c : Dev nD)
include h

theorem real_gain (d : S128.Idx) : IsReal (arg6 m c d) := isReal_of_abs _ (congrFun (h c).1 d)

theorem real_keys (i : S4x256x4x128.Idx) : IsReal (arg7 m c i) := isReal_of_abs _ (congrFun (h c).2 i)

/-- The attention over the memory is the reference's. -/
theorem memory_final : (dats m 0 c).arrAt 20 cfg0.N = target_o m c := final_o m c (real_gain h c) (real_keys h c)

end Cert.In
-- ==== Proof.lean ====
/- The claims about the neighbourhood attention, the layer's second half and its first half: runs without faults, unchanged arguments, and the references' values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Result
public import proofs.«01_k».proof.Proof.FfnHost
public import Idealize.ShloMosaic.Adequacy
public import Idealize.ShloMosaic.Init
public import Idealize.ShloMosaic.Lib.Quiescent
public import proofs.«01_k».proof.Proof.Gen.Kernel2.Frame
public import proofs.«01_k».proof.Proof.Gen.Kernel2Ideal.Value
public import proofs.«01_k».proof.Proof.Gen.Reference2Ideal.Read
public import proofs.«01_k».proof.Proof.InResult
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Pre_finite3

@[expose] public section

noncomputable section

namespace Cert.Proof

open Idealize.ShloMosaic Idealize.SL.Sem Cert.Kernel

/-- From the same arguments, the queries, keys and bias table finite, both programs end with the same result. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.Na.target m c, ?_, ?_⟩
  · refine (θ_run _ _ _).mono (fun r h c => ?_) (Cert.KernelIdeal.Value.run_blocks m g)
    obtain ⟨h0, h⟩ := h c
    exact ⟨h0.trans (Cert.Na.final m c hpre), h⟩
  · refine (θ_run _ _ _).mono (fun r h c => ?_) (Cert.ReferenceIdeal.Value.run m' g')
    obtain ⟨h0, h⟩ := h c
    obtain ⟨a0, a1, a2, a3⟩ := hagree c
    refine ⟨h0.trans ((Cert.ReferenceIdeal.Read.val_main_v96_eq m' c).trans ?_), h⟩
    rw [a0, a1, a2, a3]

/-- The reference runs to its end, its arguments unchanged; it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

/-- From the same arguments both programs of the second half end with the same result. -/
theorem value_ffn : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Ffn.target m c, ?_, ?_⟩
  · refine (θ_run _ _ _).mono (fun r h c => ?_) (Cert.Kernel2Ideal.Value.run_blocks m g)
    obtain ⟨h0, h⟩ := h c
    exact ⟨h0.trans (Cert.Ffn.final m c), h⟩
  · refine (θ_run _ _ _).mono (fun r h c => ?_) (Cert.Reference2Ideal.Value.run m' g')
    obtain ⟨h0, h⟩ := h c
    obtain ⟨a0, a1, a2, a3, a4, a5, a6, a7, a8, a9, a10, a11⟩ := hagree c
    refine ⟨h0.trans ((Cert.Reference2Ideal.Read.val_main_v59_eq m' c).trans ?_), h⟩
    rw [a0, a1, a2, a3, a4, a5, a6, a7, a8, a9, a10, a11]

/-- The reference of the second half runs to its end, its arguments unchanged; it declares no semaphore. -/
theorem reference_ffn_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
        ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
        ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
        ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0) :=
  (θ_run _ _ _).mono (fun r h => ⟨fun c => (h c).2, sem_eq_zero_of_no_sems rfl r.2⟩) (Cert.Reference2Ideal.Value.run m g)

/-- From the same arguments, the memory queries' gain and the memory's keys finite, both programs of the first half end with the same six results. -/
theorem value_in : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  refine ⟨fun c => Cert.In.target_q m c, fun c => Cert.In.target_k m c, fun c => Cert.In.target_v m c, fun c => Cert.In.target_f m c,
    fun c => Cert.In.target_o m c, fun c => Cert.In.target_g m c, ?_, ?_⟩
  · refine (θ_run _ _ _).mono (fun r h c => ?_) (Cert.Kernel3Ideal.Value.run_blocks m g)
    obtain ⟨h0, h1, h2, h3, h4, h5, h⟩ := h c
    exact ⟨h0.trans (Cert.In.final_q m c), h1.trans (Cert.In.final_k m c), h2.trans (Cert.In.final_v m c), h3.trans (Cert.In.final_f m c),
      h4.trans (Cert.In.memory_final hpre c), h5.trans (Cert.In.final_g m c), h⟩
  · refine (θ_run _ _ _).mono (fun r h c => ?_) (Cert.Reference3Ideal.Value.run m' g')
    obtain ⟨h0, h1, h2, h3, h4, h5, h⟩ := h c
    obtain ⟨a0, a1, a2, a3, a4, a5, a6, a7, a8⟩ := hagree c
    refine ⟨h0.trans ((Cert.Reference3Ideal.Read.val_main_v90_eq _ _ _ _).trans ?_), h1.trans ((Cert.Reference3Ideal.Read.val_main_v91_eq _ _ _ _).trans ?_),
      h2.trans ((Cert.Reference3Ideal.Read.val_main_v93_eq _ _ _).trans ?_), h3.trans ((Cert.Reference3Ideal.Read.val_main_v95_eq _ _ _).trans ?_),
      h4.trans ((Cert.Reference3Ideal.Read.val_main_v97_eq m' c).trans ?_), h5.trans ((Cert.Reference3Ideal.Read.val_main_v99_eq _ _ _ _).trans ?_), h⟩
    · rw [a0, a1, a2, a4]
    · rw [a0, a1, a2, a5]
    · rw [a0, a1, a2]
    · rw [a0, a1, a2]
    · rw [a0, a1, a2, a6, a7, a8]
    · rw [a0, a1, a2, a3]

/-- The reference of the first half runs to its end, its arguments unchanged; it declares no semaphore. -/
theorem reference_in_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run _ _ _).mono (fun r h => ⟨fun c => (h c).2.2.2.2.2.2, sem_eq_zero_of_no_sems rfl r.2⟩) (Cert.Reference3Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, Cert.Pre_finite3.Gen.facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Gen.frame m g, fun m g _ => Cert.Kernel2Ideal.Gen.frame m g, fun m g _ => reference_ffn_frame m g,
    fun m g _ => Cert.Kernel3.Gen.frame m g, fun m g _ => Cert.Kernel3Ideal.Gen.frame m g, fun m g _ => Cert.Kernel3Ideal.Gen.frame m g,
    fun m g _ => reference_in_frame m g, fun m g _ => reference_in_frame m g,
    trivial, value, trivial, value_ffn, trivial, value_in⟩

end Cert.Proof

end
